-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties_at_cut [hPre_no_ties_at_cut : Cert.Pre_no_ties_at_cut.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties_at_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties_at_cut [hPre_no_ties_at_cut : Cert.Pre_no_ties_at_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties_at_cut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_no_ties_at_cut [hKernelIdeal : Cert.KernelIdeal.Facts] [hPre_no_ties_at_cut : Cert.Pre_no_ties_at_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties_at_cut m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_no_ties_at_cut [hReferenceIdeal : Cert.ReferenceIdeal.Facts] [hPre_no_ties_at_cut : Cert.Pre_no_ties_at_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties_at_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_no_ties_at_cut [hKernelIdeal : Cert.KernelIdeal.Facts] [hReferenceIdeal : Cert.ReferenceIdeal.Facts] [hPre_no_ties_at_cut : Cert.Pre_no_ties_at_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties_at_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_no_ties_at_cut : Cert.Pre_no_ties_at_cut.Facts),
    quiescent_Kernel (hKernel := hKernel)
    ∧ quiescent_KernelIdeal (hKernelIdeal := hKernelIdeal)
    ∧ quiescent_KernelIdeal_pre_no_ties_at_cut (hKernelIdeal := hKernelIdeal) (hPre_no_ties_at_cut := hPre_no_ties_at_cut)
    ∧ quiescent_ReferenceIdeal (hReferenceIdeal := hReferenceIdeal)
    ∧ quiescent_ReferenceIdeal_pre_no_ties_at_cut (hReferenceIdeal := hReferenceIdeal) (hPre_no_ties_at_cut := hPre_no_ties_at_cut)
    ∧ preserves_Kernel_KernelIdeal
    ∧ algebraic_KernelIdeal_ReferenceIdeal_pre_no_ties_at_cut (hKernelIdeal := hKernelIdeal) (hReferenceIdeal := hReferenceIdeal) (hPre_no_ties_at_cut := hPre_no_ties_at_cut)
-- ==== Pre_no_ties_at_cut.lean ====
abbrev S8x1024x768 : Shape := ⟨3, ![8, 1024, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S225x12 : Shape := ⟨2, ![225, 12]⟩
abbrev S768x3072 : Shape := ⟨2, ![768, 3072]⟩
abbrev S3072 : Shape := ⟨1, ![3072]⟩
abbrev S3072x768 : Shape := ⟨2, ![3072, 768]⟩
abbrev S64x64 : Shape := ⟨2, ![64, 64]⟩
abbrev S_ : Shape := ⟨0, ![]⟩
abbrev S8x1024 : Shape := ⟨2, ![8, 1024]⟩
abbrev S8x1024x1 : Shape := ⟨3, ![8, 1024, 1]⟩
abbrev S1x1x768 : Shape := ⟨3, ![1, 1, 768]⟩
abbrev S8x32x32x768 : Shape := ⟨4, ![8, 32, 32, 768]⟩
abbrev S8x4x8x4x8x768 : Shape := ⟨6, ![8, 4, 8, 4, 8, 768]⟩
abbrev S8x4x4x8x8x768 : Shape := ⟨6, ![8, 4, 4, 8, 8, 768]⟩
abbrev S128x64x768 : Shape := ⟨3, ![128, 64, 768]⟩
abbrev S128x64x2304 : Shape := ⟨3, ![128, 64, 2304]⟩
abbrev S1x1x2304 : Shape := ⟨3, ![1, 1, 2304]⟩
abbrev S128x64x3x12x64 : Shape := ⟨5, ![128, 64, 3, 12, 64]⟩
abbrev S3x128x12x64x64 : Shape := ⟨5, ![3, 128, 12, 64, 64]⟩
abbrev S1x128x12x64x64 : Shape := ⟨5, ![1, 128, 12, 64, 64]⟩
abbrev S128x12x64x64 : Shape := ⟨4, ![128, 12, 64, 64]⟩
abbrev S4096 : Shape := ⟨1, ![4096]⟩
abbrev S4096x1 : Shape := ⟨2, ![4096, 1]⟩
abbrev S4096x12 : Shape := ⟨2, ![4096, 12]⟩
abbrev S64x64x12 : Shape := ⟨3, ![64, 64, 12]⟩
abbrev S12x64x64 : Shape := ⟨3, ![12, 64, 64]⟩
abbrev S1x12x64x64 : Shape := ⟨4, ![1, 12, 64, 64]⟩
abbrev S128x12x64x16 : Shape := ⟨4, ![128, 12, 64, 16]⟩
abbrev S128x12x64x1 : Shape := ⟨4, ![128, 12, 64, 1]⟩

class Facts : Prop where
  reducesTo_S8x1024x768_S8x1024_d2 : S8x1024x768.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x768_0_1_2 : S8x1024x1.BroadcastsInDim S8x1024x768 (![0, 1, 2] : Fin 3 → Fin S8x1024x768.rank)
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  shapeCasts_S8x1024x768_S8x32x32x768 : S8x1024x768.ShapeCasts S8x32x32x768
  shapeCasts_S8x32x32x768_S8x4x8x4x8x768 : S8x32x32x768.ShapeCasts S8x4x8x4x8x768
  transposes_S8x4x8x4x8x768_S8x4x4x8x8x768_0_1_3_2_4_5 : S8x4x8x4x8x768.Transposes [0, 1, 3, 2, 4, 5] S8x4x4x8x8x768
  shapeCasts_S8x4x4x8x8x768_S128x64x768 : S8x4x4x8x8x768.ShapeCasts S128x64x768
  bcast_S2304_S1x1x2304_2 : S2304.BroadcastsInDim S1x1x2304 (![2] : Fin 1 → Fin S1x1x2304.rank)
  bcast_S1x1x2304_S128x64x2304_0_1_2 : S1x1x2304.BroadcastsInDim S128x64x2304 (![0, 1, 2] : Fin 3 → Fin S128x64x2304.rank)
  shapeCasts_S128x64x2304_S128x64x3x12x64 : S128x64x2304.ShapeCasts S128x64x3x12x64
  transposes_S128x64x3x12x64_S3x128x12x64x64_2_0_3_1_4 : S128x64x3x12x64.Transposes [2, 0, 3, 1, 4] S3x128x12x64x64
  slices_S3x128x12x64x64_S1x128x12x64x64_0_0_0_0_0 : S3x128x12x64x64.Slices ![0, 0, 0, 0, 0] S1x128x12x64x64
  shapeCasts_S1x128x12x64x64_S128x12x64x64 : S1x128x12x64x64.ShapeCasts S128x12x64x64
  bcast_S_S128x12x64x64 : S_.BroadcastsInDim S128x12x64x64 (![] : Fin 0 → Fin S128x12x64x64.rank)
  slices_S3x128x12x64x64_S1x128x12x64x64_1_0_0_0_0 : S3x128x12x64x64.Slices ![1, 0, 0, 0, 0] S1x128x12x64x64
  slices_S3x128x12x64x64_S1x128x12x64x64_2_0_0_0_0 : S3x128x12x64x64.Slices ![2, 0, 0, 0, 0] S1x128x12x64x64
  transposes_S128x12x64x64_S128x12x64x64_0_1_3_2 : S128x12x64x64.Transposes [0, 1, 3, 2] S128x12x64x64
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x12_S64x64x12 : S4096x12.ShapeCasts S64x64x12
  transposes_S64x64x12_S12x64x64_2_0_1 : S64x64x12.Transposes [2, 0, 1] S12x64x64
  bcast_S12x64x64_S1x12x64x64_1_2_3 : S12x64x64.BroadcastsInDim S1x12x64x64 (![1, 2, 3] : Fin 3 → Fin S1x12x64x64.rank)
  bcast_S1x12x64x64_S128x12x64x64_0_1_2_3 : S1x12x64x64.BroadcastsInDim S128x12x64x64 (![0, 1, 2, 3] : Fin 4 → Fin S128x12x64x64.rank)
  sliceFits_S128x12x64x64_S128x12x64x64 : S128x12x64x64.Slices (fun _ => 0) S128x12x64x64
  slices_S128x12x64x64_S128x12x64x16_0_0_0_47 : S128x12x64x64.Slices ![0, 0, 0, 47] S128x12x64x16
  slices_S128x12x64x64_S128x12x64x16_0_0_0_48 : S128x12x64x64.Slices ![0, 0, 0, 48] S128x12x64x16
  slices_S128x12x64x64_S128x12x64x1_0_0_0_0 : S128x12x64x64.Slices ![0, 0, 0, 0] S128x12x64x1
  bcast_S128x12x64x1_S128x12x64x16_0_1_2_3 : S128x12x64x1.BroadcastsInDim S128x12x64x16 (![0, 1, 2, 3] : Fin 4 → Fin S128x12x64x16.rank)
  bcast_S_S128x12x64x16 : S_.BroadcastsInDim S128x12x64x16 (![] : Fin 0 → Fin S128x12x64x16.rank)
  dot_S128x64x768_S768x2304_S128x64x2304_2_0_01_1_n_n_wf : DotDims.WF S128x64x768 S768x2304 S128x64x2304 [2] [0] [0, 1] [1] [] []
  dot_S128x12x64x64_S128x12x64x64_S128x12x64x64_3_2_2_3_01_01_wf : DotDims.WF S128x12x64x64 S128x12x64x64 S128x12x64x64 [3] [2] [2] [3] [0, 1] [0, 1]
  gather_S225x12_S4096x1_S4096x12_1_0_n_n_0_1_112_wf : GatherDims.WF S225x12 S4096x1 S4096x12 [1] [0] [] [0] [] 1 ![1, 12]

variable [Facts]

def dot_S128x64x768_S768x2304_S128x64x2304_2_0_01_1_n_n : DotDims S128x64x768 S768x2304 S128x64x2304 where
  lhsContracting := [2]
  rhsContracting := [0]
  lhsNonContracting := [0, 1]
  rhsNonContracting := [1]
  lhsBatch := []
  rhsBatch := []
  wf := dot_S128x64x768_S768x2304_S128x64x2304_2_0_01_1_n_n_wf
def dot_S128x12x64x64_S128x12x64x64_S128x12x64x64_3_2_2_3_01_01 : DotDims S128x12x64x64 S128x12x64x64 S128x12x64x64 where
  lhsContracting := [3]
  rhsContracting := [2]
  lhsNonContracting := [2]
  rhsNonContracting := [3]
  lhsBatch := [0, 1]
  rhsBatch := [0, 1]
  wf := dot_S128x12x64x64_S128x12x64x64_S128x12x64x64_3_2_2_3_01_01_wf
def gather_S225x12_S4096x1_S4096x12_1_0_n_n_0_1_112 : GatherDims S225x12 S4096x1 S4096x12 where
  offsetDims := [1]
  collapsedSliceDims := [0]
  operandBatchingDims := []
  startIndicesBatchingDims := []
  startIndexMap := [0]
  indexVectorDim := 1
  sliceSizes := ![1, 12]
  wf := gather_S225x12_S4096x1_S4096x12_1_0_n_n_0_1_112_wf

noncomputable abbrev lit0t0_0 (i : Nat) : BitVec 32 := match i % 128 with
  | 0 => 112#32
  | 1 => 111#32
  | 2 => 110#32
  | 3 => 109#32
  | 4 => 108#32
  | 5 => 107#32
  | 6 => 106#32
  | 7 => 105#32
  | 8 => 97#32
  | 9 => 96#32
  | 10 => 95#32
  | 11 => 94#32
  | 12 => 93#32
  | 13 => 92#32
  | 14 => 91#32
  | 15 => 90#32
  | 16 => 82#32
  | 17 => 81#32
  | 18 => 80#32
  | 19 => 79#32
  | 20 => 78#32
  | 21 => 77#32
  | 22 => 76#32
  | 23 => 75#32
  | 24 => 67#32
  | 25 => 66#32
  | 26 => 65#32
  | 27 => 64#32
  | 28 => 63#32
  | 29 => 62#32
  | 30 => 61#32
  | 31 => 60#32
  | 32 => 52#32
  | 33 => 51#32
  | 34 => 50#32
  | 35 => 49#32
  | 36 => 48#32
  | 37 => 47#32
  | 38 => 46#32
  | 39 => 45#32
  | 40 => 37#32
  | 41 => 36#32
  | 42 => 35#32
  | 43 => 34#32
  | 44 => 33#32
  | 45 => 32#32
  | 46 => 31#32
  | 47 => 30#32
  | 48 => 22#32
  | 49 => 21#32
  | 50 => 20#32
  | 51 => 19#32
  | 52 => 18#32
  | 53 => 17#32
  | 54 => 16#32
  | 55 => 15#32
  | 56 => 7#32
  | 57 => 6#32
  | 58 => 5#32
  | 59 => 4#32
  | 60 => 3#32
  | 61 => 2#32
  | 62 => 1#32
  | 63 => 0#32
  | 64 => 113#32
  | 65 => 112#32
  | 66 => 111#32
  | 67 => 110#32
  | 68 => 109#32
  | 69 => 108#32
  | 70 => 107#32
  | 71 => 106#32
  | 72 => 98#32
  | 73 => 97#32
  | 74 => 96#32
  | 75 => 95#32
  | 76 => 94#32
  | 77 => 93#32
  | 78 => 92#32
  | 79 => 91#32
  | 80 => 83#32
  | 81 => 82#32
  | 82 => 81#32
  | 83 => 80#32
  | 84 => 79#32
  | 85 => 78#32
  | 86 => 77#32
  | 87 => 76#32
  | 88 => 68#32
  | 89 => 67#32
  | 90 => 66#32
  | 91 => 65#32
  | 92 => 64#32
  | 93 => 63#32
  | 94 => 62#32
  | 95 => 61#32
  | 96 => 53#32
  | 97 => 52#32
  | 98 => 51#32
  | 99 => 50#32
  | 100 => 49#32
  | 101 => 48#32
  | 102 => 47#32
  | 103 => 46#32
  | 104 => 38#32
  | 105 => 37#32
  | 106 => 36#32
  | 107 => 35#32
  | 108 => 34#32
  | 109 => 33#32
  | 110 => 32#32
  | 111 => 31#32
  | 112 => 23#32
  | 113 => 22#32
  | 114 => 21#32
  | 115 => 20#32
  | 116 => 19#32
  | 117 => 18#32
  | 118 => 17#32
  | 119 => 16#32
  | 120 => 8#32
  | 121 => 7#32
  | 122 => 6#32
  | 123 => 5#32
  | 124 => 4#32
  | 125 => 3#32
  | 126 => 2#32
  | 127 => 1#32
  | _ => 0#32

noncomputable abbrev lit0t0_1 (i : Nat) : BitVec 32 := match i % 128 with
  | 0 => 114#32
  | 1 => 113#32
  | 2 => 112#32
  | 3 => 111#32
  | 4 => 110#32
  | 5 => 109#32
  | 6 => 108#32
  | 7 => 107#32
  | 8 => 99#32
  | 9 => 98#32
  | 10 => 97#32
  | 11 => 96#32
  | 12 => 95#32
  | 13 => 94#32
  | 14 => 93#32
  | 15 => 92#32
  | 16 => 84#32
  | 17 => 83#32
  | 18 => 82#32
  | 19 => 81#32
  | 20 => 80#32
  | 21 => 79#32
  | 22 => 78#32
  | 23 => 77#32
  | 24 => 69#32
  | 25 => 68#32
  | 26 => 67#32
  | 27 => 66#32
  | 28 => 65#32
  | 29 => 64#32
  | 30 => 63#32
  | 31 => 62#32
  | 32 => 54#32
  | 33 => 53#32
  | 34 => 52#32
  | 35 => 51#32
  | 36 => 50#32
  | 37 => 49#32
  | 38 => 48#32
  | 39 => 47#32
  | 40 => 39#32
  | 41 => 38#32
  | 42 => 37#32
  | 43 => 36#32
  | 44 => 35#32
  | 45 => 34#32
  | 46 => 33#32
  | 47 => 32#32
  | 48 => 24#32
  | 49 => 23#32
  | 50 => 22#32
  | 51 => 21#32
  | 52 => 20#32
  | 53 => 19#32
  | 54 => 18#32
  | 55 => 17#32
  | 56 => 9#32
  | 57 => 8#32
  | 58 => 7#32
  | 59 => 6#32
  | 60 => 5#32
  | 61 => 4#32
  | 62 => 3#32
  | 63 => 2#32
  | 64 => 115#32
  | 65 => 114#32
  | 66 => 113#32
  | 67 => 112#32
  | 68 => 111#32
  | 69 => 110#32
  | 70 => 109#32
  | 71 => 108#32
  | 72 => 100#32
  | 73 => 99#32
  | 74 => 98#32
  | 75 => 97#32
  | 76 => 96#32
  | 77 => 95#32
  | 78 => 94#32
  | 79 => 93#32
  | 80 => 85#32
  | 81 => 84#32
  | 82 => 83#32
  | 83 => 82#32
  | 84 => 81#32
  | 85 => 80#32
  | 86 => 79#32
  | 87 => 78#32
  | 88 => 70#32
  | 89 => 69#32
  | 90 => 68#32
  | 91 => 67#32
  | 92 => 66#32
  | 93 => 65#32
  | 94 => 64#32
  | 95 => 63#32
  | 96 => 55#32
  | 97 => 54#32
  | 98 => 53#32
  | 99 => 52#32
  | 100 => 51#32
  | 101 => 50#32
  | 102 => 49#32
  | 103 => 48#32
  | 104 => 40#32
  | 105 => 39#32
  | 106 => 38#32
  | 107 => 37#32
  | 108 => 36#32
  | 109 => 35#32
  | 110 => 34#32
  | 111 => 33#32
  | 112 => 25#32
  | 113 => 24#32
  | 114 => 23#32
  | 115 => 22#32
  | 116 => 21#32
  | 117 => 20#32
  | 118 => 19#32
  | 119 => 18#32
  | 120 => 10#32
  | 121 => 9#32
  | 122 => 8#32
  | 123 => 7#32
  | 124 => 6#32
  | 125 => 5#32
  | 126 => 4#32
  | 127 => 3#32
  | _ => 0#32

noncomputable abbrev lit0t0_2 (i : Nat) : BitVec 32 := match i % 128 with
  | 0 => 116#32
  | 1 => 115#32
  | 2 => 114#32
  | 3 => 113#32
  | 4 => 112#32
  | 5 => 111#32
  | 6 => 110#32
  | 7 => 109#32
  | 8 => 101#32
  | 9 => 100#32
  | 10 => 99#32
  | 11 => 98#32
  | 12 => 97#32
  | 13 => 96#32
  | 14 => 95#32
  | 15 => 94#32
  | 16 => 86#32
  | 17 => 85#32
  | 18 => 84#32
  | 19 => 83#32
  | 20 => 82#32
  | 21 => 81#32
  | 22 => 80#32
  | 23 => 79#32
  | 24 => 71#32
  | 25 => 70#32
  | 26 => 69#32
  | 27 => 68#32
  | 28 => 67#32
  | 29 => 66#32
  | 30 => 65#32
  | 31 => 64#32
  | 32 => 56#32
  | 33 => 55#32
  | 34 => 54#32
  | 35 => 53#32
  | 36 => 52#32
  | 37 => 51#32
  | 38 => 50#32
  | 39 => 49#32
  | 40 => 41#32
  | 41 => 40#32
  | 42 => 39#32
  | 43 => 38#32
  | 44 => 37#32
  | 45 => 36#32
  | 46 => 35#32
  | 47 => 34#32
  | 48 => 26#32
  | 49 => 25#32
  | 50 => 24#32
  | 51 => 23#32
  | 52 => 22#32
  | 53 => 21#32
  | 54 => 20#32
  | 55 => 19#32
  | 56 => 11#32
  | 57 => 10#32
  | 58 => 9#32
  | 59 => 8#32
  | 60 => 7#32
  | 61 => 6#32
  | 62 => 5#32
  | 63 => 4#32
  | 64 => 117#32
  | 65 => 116#32
  | 66 => 115#32
  | 67 => 114#32
  | 68 => 113#32
  | 69 => 112#32
  | 70 => 111#32
  | 71 => 110#32
  | 72 => 102#32
  | 73 => 101#32
  | 74 => 100#32
  | 75 => 99#32
  | 76 => 98#32
  | 77 => 97#32
  | 78 => 96#32
  | 79 => 95#32
  | 80 => 87#32
  | 81 => 86#32
  | 82 => 85#32
  | 83 => 84#32
  | 84 => 83#32
  | 85 => 82#32
  | 86 => 81#32
  | 87 => 80#32
  | 88 => 72#32
  | 89 => 71#32
  | 90 => 70#32
  | 91 => 69#32
  | 92 => 68#32
  | 93 => 67#32
  | 94 => 66#32
  | 95 => 65#32
  | 96 => 57#32
  | 97 => 56#32
  | 98 => 55#32
  | 99 => 54#32
  | 100 => 53#32
  | 101 => 52#32
  | 102 => 51#32
  | 103 => 50#32
  | 104 => 42#32
  | 105 => 41#32
  | 106 => 40#32
  | 107 => 39#32
  | 108 => 38#32
  | 109 => 37#32
  | 110 => 36#32
  | 111 => 35#32
  | 112 => 27#32
  | 113 => 26#32
  | 114 => 25#32
  | 115 => 24#32
  | 116 => 23#32
  | 117 => 22#32
  | 118 => 21#32
  | 119 => 20#32
  | 120 => 12#32
  | 121 => 11#32
  | 122 => 10#32
  | 123 => 9#32
  | 124 => 8#32
  | 125 => 7#32
  | 126 => 6#32
  | 127 => 5#32
  | _ => 0#32

noncomputable abbrev lit0t0_3 (i : Nat) : BitVec 32 := match i % 128 with
  | 0 => 118#32
  | 1 => 117#32
  | 2 => 116#32
  | 3 => 115#32
  | 4 => 114#32
  | 5 => 113#32
  | 6 => 112#32
  | 7 => 111#32
  | 8 => 103#32
  | 9 => 102#32
  | 10 => 101#32
  | 11 => 100#32
  | 12 => 99#32
  | 13 => 98#32
  | 14 => 97#32
  | 15 => 96#32
  | 16 => 88#32
  | 17 => 87#32
  | 18 => 86#32
  | 19 => 85#32
  | 20 => 84#32
  | 21 => 83#32
  | 22 => 82#32
  | 23 => 81#32
  | 24 => 73#32
  | 25 => 72#32
  | 26 => 71#32
  | 27 => 70#32
  | 28 => 69#32
  | 29 => 68#32
  | 30 => 67#32
  | 31 => 66#32
  | 32 => 58#32
  | 33 => 57#32
  | 34 => 56#32
  | 35 => 55#32
  | 36 => 54#32
  | 37 => 53#32
  | 38 => 52#32
  | 39 => 51#32
  | 40 => 43#32
  | 41 => 42#32
  | 42 => 41#32
  | 43 => 40#32
  | 44 => 39#32
  | 45 => 38#32
  | 46 => 37#32
  | 47 => 36#32
  | 48 => 28#32
  | 49 => 27#32
  | 50 => 26#32
  | 51 => 25#32
  | 52 => 24#32
  | 53 => 23#32
  | 54 => 22#32
  | 55 => 21#32
  | 56 => 13#32
  | 57 => 12#32
  | 58 => 11#32
  | 59 => 10#32
  | 60 => 9#32
  | 61 => 8#32
  | 62 => 7#32
  | 63 => 6#32
  | 64 => 119#32
  | 65 => 118#32
  | 66 => 117#32
  | 67 => 116#32
  | 68 => 115#32
  | 69 => 114#32
  | 70 => 113#32
  | 71 => 112#32
  | 72 => 104#32
  | 73 => 103#32
  | 74 => 102#32
  | 75 => 101#32
  | 76 => 100#32
  | 77 => 99#32
  | 78 => 98#32
  | 79 => 97#32
  | 80 => 89#32
  | 81 => 88#32
  | 82 => 87#32
  | 83 => 86#32
  | 84 => 85#32
  | 85 => 84#32
  | 86 => 83#32
  | 87 => 82#32
  | 88 => 74#32
  | 89 => 73#32
  | 90 => 72#32
  | 91 => 71#32
  | 92 => 70#32
  | 93 => 69#32
  | 94 => 68#32
  | 95 => 67#32
  | 96 => 59#32
  | 97 => 58#32
  | 98 => 57#32
  | 99 => 56#32
  | 100 => 55#32
  | 101 => 54#32
  | 102 => 53#32
  | 103 => 52#32
  | 104 => 44#32
  | 105 => 43#32
  | 106 => 42#32
  | 107 => 41#32
  | 108 => 40#32
  | 109 => 39#32
  | 110 => 38#32
  | 111 => 37#32
  | 112 => 29#32
  | 113 => 28#32
  | 114 => 27#32
  | 115 => 26#32
  | 116 => 25#32
  | 117 => 24#32
  | 118 => 23#32
  | 119 => 22#32
  | 120 => 14#32
  | 121 => 13#32
  | 122 => 12#32
  | 123 => 11#32
  | 124 => 10#32
  | 125 => 9#32
  | 126 => 8#32
  | 127 => 7#32
  | _ => 0#32

noncomputable abbrev lit0t0_4 (i : Nat) : BitVec 32 := match i % 128 with
  | 0 => 127#32
  | 1 => 126#32
  | 2 => 125#32
  | 3 => 124#32
  | 4 => 123#32
  | 5 => 122#32
  | 6 => 121#32
  | 7 => 120#32
  | 8 => 112#32
  | 9 => 111#32
  | 10 => 110#32
  | 11 => 109#32
  | 12 => 108#32
  | 13 => 107#32
  | 14 => 106#32
  | 15 => 105#32
  | 16 => 97#32
  | 17 => 96#32
  | 18 => 95#32
  | 19 => 94#32
  | 20 => 93#32
  | 21 => 92#32
  | 22 => 91#32
  | 23 => 90#32
  | 24 => 82#32
  | 25 => 81#32
  | 26 => 80#32
  | 27 => 79#32
  | 28 => 78#32
  | 29 => 77#32
  | 30 => 76#32
  | 31 => 75#32
  | 32 => 67#32
  | 33 => 66#32
  | 34 => 65#32
  | 35 => 64#32
  | 36 => 63#32
  | 37 => 62#32
  | 38 => 61#32
  | 39 => 60#32
  | 40 => 52#32
  | 41 => 51#32
  | 42 => 50#32
  | 43 => 49#32
  | 44 => 48#32
  | 45 => 47#32
  | 46 => 46#32
  | 47 => 45#32
  | 48 => 37#32
  | 49 => 36#32
  | 50 => 35#32
  | 51 => 34#32
  | 52 => 33#32
  | 53 => 32#32
  | 54 => 31#32
  | 55 => 30#32
  | 56 => 22#32
  | 57 => 21#32
  | 58 => 20#32
  | 59 => 19#32
  | 60 => 18#32
  | 61 => 17#32
  | 62 => 16#32
  | 63 => 15#32
  | 64 => 128#32
  | 65 => 127#32
  | 66 => 126#32
  | 67 => 125#32
  | 68 => 124#32
  | 69 => 123#32
  | 70 => 122#32
  | 71 => 121#32
  | 72 => 113#32
  | 73 => 112#32
  | 74 => 111#32
  | 75 => 110#32
  | 76 => 109#32
  | 77 => 108#32
  | 78 => 107#32
  | 79 => 106#32
  | 80 => 98#32
  | 81 => 97#32
  | 82 => 96#32
  | 83 => 95#32
  | 84 => 94#32
  | 85 => 93#32
  | 86 => 92#32
  | 87 => 91#32
  | 88 => 83#32
  | 89 => 82#32
  | 90 => 81#32
  | 91 => 80#32
  | 92 => 79#32
  | 93 => 78#32
  | 94 => 77#32
  | 95 => 76#32
  | 96 => 68#32
  | 97 => 67#32
  | 98 => 66#32
  | 99 => 65#32
  | 100 => 64#32
  | 101 => 63#32
  | 102 => 62#32
  | 103 => 61#32
  | 104 => 53#32
  | 105 => 52#32
  | 106 => 51#32
  | 107 => 50#32
  | 108 => 49#32
  | 109 => 48#32
  | 110 => 47#32
  | 111 => 46#32
  | 112 => 38#32
  | 113 => 37#32
  | 114 => 36#32
  | 115 => 35#32
  | 116 => 34#32
  | 117 => 33#32
  | 118 => 32#32
  | 119 => 31#32
  | 120 => 23#32
  | 121 => 22#32
  | 122 => 21#32
  | 123 => 20#32
  | 124 => 19#32
  | 125 => 18#32
  | 126 => 17#32
  | 127 => 16#32
  | _ => 0#32

noncomputable abbrev lit0t0_5 (i : Nat) : BitVec 32 := match i % 128 with
  | 0 => 129#32
  | 1 => 128#32
  | 2 => 127#32
  | 3 => 126#32
  | 4 => 125#32
  | 5 => 124#32
  | 6 => 123#32
  | 7 => 122#32
  | 8 => 114#32
  | 9 => 113#32
  | 10 => 112#32
  | 11 => 111#32
  | 12 => 110#32
  | 13 => 109#32
  | 14 => 108#32
  | 15 => 107#32
  | 16 => 99#32
  | 17 => 98#32
  | 18 => 97#32
  | 19 => 96#32
  | 20 => 95#32
  | 21 => 94#32
  | 22 => 93#32
  | 23 => 92#32
  | 24 => 84#32
  | 25 => 83#32
  | 26 => 82#32
  | 27 => 81#32
  | 28 => 80#32
  | 29 => 79#32
  | 30 => 78#32
  | 31 => 77#32
  | 32 => 69#32
  | 33 => 68#32
  | 34 => 67#32
  | 35 => 66#32
  | 36 => 65#32
  | 37 => 64#32
  | 38 => 63#32
  | 39 => 62#32
  | 40 => 54#32
  | 41 => 53#32
  | 42 => 52#32
  | 43 => 51#32
  | 44 => 50#32
  | 45 => 49#32
  | 46 => 48#32
  | 47 => 47#32
  | 48 => 39#32
  | 49 => 38#32
  | 50 => 37#32
  | 51 => 36#32
  | 52 => 35#32
  | 53 => 34#32
  | 54 => 33#32
  | 55 => 32#32
  | 56 => 24#32
  | 57 => 23#32
  | 58 => 22#32
  | 59 => 21#32
  | 60 => 20#32
  | 61 => 19#32
  | 62 => 18#32
  | 63 => 17#32
  | 64 => 130#32
  | 65 => 129#32
  | 66 => 128#32
  | 67 => 127#32
  | 68 => 126#32
  | 69 => 125#32
  | 70 => 124#32
  | 71 => 123#32
  | 72 => 115#32
  | 73 => 114#32
  | 74 => 113#32
  | 75 => 112#32
  | 76 => 111#32
  | 77 => 110#32
  | 78 => 109#32
  | 79 => 108#32
  | 80 => 100#32
  | 81 => 99#32
  | 82 => 98#32
  | 83 => 97#32
  | 84 => 96#32
  | 85 => 95#32
  | 86 => 94#32
  | 87 => 93#32
  | 88 => 85#32
  | 89 => 84#32
  | 90 => 83#32
  | 91 => 82#32
  | 92 => 81#32
  | 93 => 80#32
  | 94 => 79#32
  | 95 => 78#32
  | 96 => 70#32
  | 97 => 69#32
  | 98 => 68#32
  | 99 => 67#32
  | 100 => 66#32
  | 101 => 65#32
  | 102 => 64#32
  | 103 => 63#32
  | 104 => 55#32
  | 105 => 54#32
  | 106 => 53#32
  | 107 => 52#32
  | 108 => 51#32
  | 109 => 50#32
  | 110 => 49#32
  | 111 => 48#32
  | 112 => 40#32
  | 113 => 39#32
  | 114 => 38#32
  | 115 => 37#32
  | 116 => 36#32
  | 117 => 35#32
  | 118 => 34#32
  | 119 => 33#32
  | 120 => 25#32
  | 121 => 24#32
  | 122 => 23#32
  | 123 => 22#32
  | 124 => 21#32
  | 125 => 20#32
  | 126 => 19#32
  | 127 => 18#32
  | _ => 0#32

noncomputable abbrev lit0t0_6 (i : Nat) : BitVec 32 := match i % 128 with
  | 0 => 131#32
  | 1 => 130#32
  | 2 => 129#32
  | 3 => 128#32
  | 4 => 127#32
  | 5 => 126#32
  | 6 => 125#32
  | 7 => 124#32
  | 8 => 116#32
  | 9 => 115#32
  | 10 => 114#32
  | 11 => 113#32
  | 12 => 112#32
  | 13 => 111#32
  | 14 => 110#32
  | 15 => 109#32
  | 16 => 101#32
  | 17 => 100#32
  | 18 => 99#32
  | 19 => 98#32
  | 20 => 97#32
  | 21 => 96#32
  | 22 => 95#32
  | 23 => 94#32
  | 24 => 86#32
  | 25 => 85#32
  | 26 => 84#32
  | 27 => 83#32
  | 28 => 82#32
  | 29 => 81#32
  | 30 => 80#32
  | 31 => 79#32
  | 32 => 71#32
  | 33 => 70#32
  | 34 => 69#32
  | 35 => 68#32
  | 36 => 67#32
  | 37 => 66#32
  | 38 => 65#32
  | 39 => 64#32
  | 40 => 56#32
  | 41 => 55#32
  | 42 => 54#32
  | 43 => 53#32
  | 44 => 52#32
  | 45 => 51#32
  | 46 => 50#32
  | 47 => 49#32
  | 48 => 41#32
  | 49 => 40#32
  | 50 => 39#32
  | 51 => 38#32
  | 52 => 37#32
  | 53 => 36#32
  | 54 => 35#32
  | 55 => 34#32
  | 56 => 26#32
  | 57 => 25#32
  | 58 => 24#32
  | 59 => 23#32
  | 60 => 22#32
  | 61 => 21#32
  | 62 => 20#32
  | 63 => 19#32
  | 64 => 132#32
  | 65 => 131#32
  | 66 => 130#32
  | 67 => 129#32
  | 68 => 128#32
  | 69 => 127#32
  | 70 => 126#32
  | 71 => 125#32
  | 72 => 117#32
  | 73 => 116#32
  | 74 => 115#32
  | 75 => 114#32
  | 76 => 113#32
  | 77 => 112#32
  | 78 => 111#32
  | 79 => 110#32
  | 80 => 102#32
  | 81 => 101#32
  | 82 => 100#32
  | 83 => 99#32
  | 84 => 98#32
  | 85 => 97#32
  | 86 => 96#32
  | 87 => 95#32
  | 88 => 87#32
  | 89 => 86#32
  | 90 => 85#32
  | 91 => 84#32
  | 92 => 83#32
  | 93 => 82#32
  | 94 => 81#32
  | 95 => 80#32
  | 96 => 72#32
  | 97 => 71#32
  | 98 => 70#32
  | 99 => 69#32
  | 100 => 68#32
  | 101 => 67#32
  | 102 => 66#32
  | 103 => 65#32
  | 104 => 57#32
  | 105 => 56#32
  | 106 => 55#32
  | 107 => 54#32
  | 108 => 53#32
  | 109 => 52#32
  | 110 => 51#32
  | 111 => 50#32
  | 112 => 42#32
  | 113 => 41#32
  | 114 => 40#32
  | 115 => 39#32
  | 116 => 38#32
  | 117 => 37#32
  | 118 => 36#32
  | 119 => 35#32
  | 120 => 27#32
  | 121 => 26#32
  | 122 => 25#32
  | 123 => 24#32
  | 124 => 23#32
  | 125 => 22#32
  | 126 => 21#32
  | 127 => 20#32
  | _ => 0#32

noncomputable abbrev lit0t0_7 (i : Nat) : BitVec 32 := match i % 128 with
  | 0 => 133#32
  | 1 => 132#32
  | 2 => 131#32
  | 3 => 130#32
  | 4 => 129#32
  | 5 => 128#32
  | 6 => 127#32
  | 7 => 126#32
  | 8 => 118#32
  | 9 => 117#32
  | 10 => 116#32
  | 11 => 115#32
  | 12 => 114#32
  | 13 => 113#32
  | 14 => 112#32
  | 15 => 111#32
  | 16 => 103#32
  | 17 => 102#32
  | 18 => 101#32
  | 19 => 100#32
  | 20 => 99#32
  | 21 => 98#32
  | 22 => 97#32
  | 23 => 96#32
  | 24 => 88#32
  | 25 => 87#32
  | 26 => 86#32
  | 27 => 85#32
  | 28 => 84#32
  | 29 => 83#32
  | 30 => 82#32
  | 31 => 81#32
  | 32 => 73#32
  | 33 => 72#32
  | 34 => 71#32
  | 35 => 70#32
  | 36 => 69#32
  | 37 => 68#32
  | 38 => 67#32
  | 39 => 66#32
  | 40 => 58#32
  | 41 => 57#32
  | 42 => 56#32
  | 43 => 55#32
  | 44 => 54#32
  | 45 => 53#32
  | 46 => 52#32
  | 47 => 51#32
  | 48 => 43#32
  | 49 => 42#32
  | 50 => 41#32
  | 51 => 40#32
  | 52 => 39#32
  | 53 => 38#32
  | 54 => 37#32
  | 55 => 36#32
  | 56 => 28#32
  | 57 => 27#32
  | 58 => 26#32
  | 59 => 25#32
  | 60 => 24#32
  | 61 => 23#32
  | 62 => 22#32
  | 63 => 21#32
  | 64 => 134#32
  | 65 => 133#32
  | 66 => 132#32
  | 67 => 131#32
  | 68 => 130#32
  | 69 => 129#32
  | 70 => 128#32
  | 71 => 127#32
  | 72 => 119#32
  | 73 => 118#32
  | 74 => 117#32
  | 75 => 116#32
  | 76 => 115#32
  | 77 => 114#32
  | 78 => 113#32
  | 79 => 112#32
  | 80 => 104#32
  | 81 => 103#32
  | 82 => 102#32
  | 83 => 101#32
  | 84 => 100#32
  | 85 => 99#32
  | 86 => 98#32
  | 87 => 97#32
  | 88 => 89#32
  | 89 => 88#32
  | 90 => 87#32
  | 91 => 86#32
  | 92 => 85#32
  | 93 => 84#32
  | 94 => 83#32
  | 95 => 82#32
  | 96 => 74#32
  | 97 => 73#32
  | 98 => 72#32
  | 99 => 71#32
  | 100 => 70#32
  | 101 => 69#32
  | 102 => 68#32
  | 103 => 67#32
  | 104 => 59#32
  | 105 => 58#32
  | 106 => 57#32
  | 107 => 56#32
  | 108 => 55#32
  | 109 => 54#32
  | 110 => 53#32
  | 111 => 52#32
  | 112 => 44#32
  | 113 => 43#32
  | 114 => 42#32
  | 115 => 41#32
  | 116 => 40#32
  | 117 => 39#32
  | 118 => 38#32
  | 119 => 37#32
  | 120 => 29#32
  | 121 => 28#32
  | 122 => 27#32
  | 123 => 26#32
  | 124 => 25#32
  | 125 => 24#32
  | 126 => 23#32
  | 127 => 22#32
  | _ => 0#32

noncomputable abbrev lit0t0_8 (i : Nat) : BitVec 32 := match i % 128 with
  | 0 => 142#32
  | 1 => 141#32
  | 2 => 140#32
  | 3 => 139#32
  | 4 => 138#32
  | 5 => 137#32
  | 6 => 136#32
  | 7 => 135#32
  | 8 => 127#32
  | 9 => 126#32
  | 10 => 125#32
  | 11 => 124#32
  | 12 => 123#32
  | 13 => 122#32
  | 14 => 121#32
  | 15 => 120#32
  | 16 => 112#32
  | 17 => 111#32
  | 18 => 110#32
  | 19 => 109#32
  | 20 => 108#32
  | 21 => 107#32
  | 22 => 106#32
  | 23 => 105#32
  | 24 => 97#32
  | 25 => 96#32
  | 26 => 95#32
  | 27 => 94#32
  | 28 => 93#32
  | 29 => 92#32
  | 30 => 91#32
  | 31 => 90#32
  | 32 => 82#32
  | 33 => 81#32
  | 34 => 80#32
  | 35 => 79#32
  | 36 => 78#32
  | 37 => 77#32
  | 38 => 76#32
  | 39 => 75#32
  | 40 => 67#32
  | 41 => 66#32
  | 42 => 65#32
  | 43 => 64#32
  | 44 => 63#32
  | 45 => 62#32
  | 46 => 61#32
  | 47 => 60#32
  | 48 => 52#32
  | 49 => 51#32
  | 50 => 50#32
  | 51 => 49#32
  | 52 => 48#32
  | 53 => 47#32
  | 54 => 46#32
  | 55 => 45#32
  | 56 => 37#32
  | 57 => 36#32
  | 58 => 35#32
  | 59 => 34#32
  | 60 => 33#32
  | 61 => 32#32
  | 62 => 31#32
  | 63 => 30#32
  | 64 => 143#32
  | 65 => 142#32
  | 66 => 141#32
  | 67 => 140#32
  | 68 => 139#32
  | 69 => 138#32
  | 70 => 137#32
  | 71 => 136#32
  | 72 => 128#32
  | 73 => 127#32
  | 74 => 126#32
  | 75 => 125#32
  | 76 => 124#32
  | 77 => 123#32
  | 78 => 122#32
  | 79 => 121#32
  | 80 => 113#32
  | 81 => 112#32
  | 82 => 111#32
  | 83 => 110#32
  | 84 => 109#32
  | 85 => 108#32
  | 86 => 107#32
  | 87 => 106#32
  | 88 => 98#32
  | 89 => 97#32
  | 90 => 96#32
  | 91 => 95#32
  | 92 => 94#32
  | 93 => 93#32
  | 94 => 92#32
  | 95 => 91#32
  | 96 => 83#32
  | 97 => 82#32
  | 98 => 81#32
  | 99 => 80#32
  | 100 => 79#32
  | 101 => 78#32
  | 102 => 77#32
  | 103 => 76#32
  | 104 => 68#32
  | 105 => 67#32
  | 106 => 66#32
  | 107 => 65#32
  | 108 => 64#32
  | 109 => 63#32
  | 110 => 62#32
  | 111 => 61#32
  | 112 => 53#32
  | 113 => 52#32
  | 114 => 51#32
  | 115 => 50#32
  | 116 => 49#32
  | 117 => 48#32
  | 118 => 47#32
  | 119 => 46#32
  | 120 => 38#32
  | 121 => 37#32
  | 122 => 36#32
  | 123 => 35#32
  | 124 => 34#32
  | 125 => 33#32
  | 126 => 32#32
  | 127 => 31#32
  | _ => 0#32

noncomputable abbrev lit0t0_9 (i : Nat) : BitVec 32 := match i % 128 with
  | 0 => 144#32
  | 1 => 143#32
  | 2 => 142#32
  | 3 => 141#32
  | 4 => 140#32
  | 5 => 139#32
  | 6 => 138#32
  | 7 => 137#32
  | 8 => 129#32
  | 9 => 128#32
  | 10 => 127#32
  | 11 => 126#32
  | 12 => 125#32
  | 13 => 124#32
  | 14 => 123#32
  | 15 => 122#32
  | 16 => 114#32
  | 17 => 113#32
  | 18 => 112#32
  | 19 => 111#32
  | 20 => 110#32
  | 21 => 109#32
  | 22 => 108#32
  | 23 => 107#32
  | 24 => 99#32
  | 25 => 98#32
  | 26 => 97#32
  | 27 => 96#32
  | 28 => 95#32
  | 29 => 94#32
  | 30 => 93#32
  | 31 => 92#32
  | 32 => 84#32
  | 33 => 83#32
  | 34 => 82#32
  | 35 => 81#32
  | 36 => 80#32
  | 37 => 79#32
  | 38 => 78#32
  | 39 => 77#32
  | 40 => 69#32
  | 41 => 68#32
  | 42 => 67#32
  | 43 => 66#32
  | 44 => 65#32
  | 45 => 64#32
  | 46 => 63#32
  | 47 => 62#32
  | 48 => 54#32
  | 49 => 53#32
  | 50 => 52#32
  | 51 => 51#32
  | 52 => 50#32
  | 53 => 49#32
  | 54 => 48#32
  | 55 => 47#32
  | 56 => 39#32
  | 57 => 38#32
  | 58 => 37#32
  | 59 => 36#32
  | 60 => 35#32
  | 61 => 34#32
  | 62 => 33#32
  | 63 => 32#32
  | 64 => 145#32
  | 65 => 144#32
  | 66 => 143#32
  | 67 => 142#32
  | 68 => 141#32
  | 69 => 140#32
  | 70 => 139#32
  | 71 => 138#32
  | 72 => 130#32
  | 73 => 129#32
  | 74 => 128#32
  | 75 => 127#32
  | 76 => 126#32
  | 77 => 125#32
  | 78 => 124#32
  | 79 => 123#32
  | 80 => 115#32
  | 81 => 114#32
  | 82 => 113#32
  | 83 => 112#32
  | 84 => 111#32
  | 85 => 110#32
  | 86 => 109#32
  | 87 => 108#32
  | 88 => 100#32
  | 89 => 99#32
  | 90 => 98#32
  | 91 => 97#32
  | 92 => 96#32
  | 93 => 95#32
  | 94 => 94#32
  | 95 => 93#32
  | 96 => 85#32
  | 97 => 84#32
  | 98 => 83#32
  | 99 => 82#32
  | 100 => 81#32
  | 101 => 80#32
  | 102 => 79#32
  | 103 => 78#32
  | 104 => 70#32
  | 105 => 69#32
  | 106 => 68#32
  | 107 => 67#32
  | 108 => 66#32
  | 109 => 65#32
  | 110 => 64#32
  | 111 => 63#32
  | 112 => 55#32
  | 113 => 54#32
  | 114 => 53#32
  | 115 => 52#32
  | 116 => 51#32
  | 117 => 50#32
  | 118 => 49#32
  | 119 => 48#32
  | 120 => 40#32
  | 121 => 39#32
  | 122 => 38#32
  | 123 => 37#32
  | 124 => 36#32
  | 125 => 35#32
  | 126 => 34#32
  | 127 => 33#32
  | _ => 0#32

noncomputable abbrev lit0t0_10 (i : Nat) : BitVec 32 := match i % 128 with
  | 0 => 146#32
  | 1 => 145#32
  | 2 => 144#32
  | 3 => 143#32
  | 4 => 142#32
  | 5 => 141#32
  | 6 => 140#32
  | 7 => 139#32
  | 8 => 131#32
  | 9 => 130#32
  | 10 => 129#32
  | 11 => 128#32
  | 12 => 127#32
  | 13 => 126#32
  | 14 => 125#32
  | 15 => 124#32
  | 16 => 116#32
  | 17 => 115#32
  | 18 => 114#32
  | 19 => 113#32
  | 20 => 112#32
  | 21 => 111#32
  | 22 => 110#32
  | 23 => 109#32
  | 24 => 101#32
  | 25 => 100#32
  | 26 => 99#32
  | 27 => 98#32
  | 28 => 97#32
  | 29 => 96#32
  | 30 => 95#32
  | 31 => 94#32
  | 32 => 86#32
  | 33 => 85#32
  | 34 => 84#32
  | 35 => 83#32
  | 36 => 82#32
  | 37 => 81#32
  | 38 => 80#32
  | 39 => 79#32
  | 40 => 71#32
  | 41 => 70#32
  | 42 => 69#32
  | 43 => 68#32
  | 44 => 67#32
  | 45 => 66#32
  | 46 => 65#32
  | 47 => 64#32
  | 48 => 56#32
  | 49 => 55#32
  | 50 => 54#32
  | 51 => 53#32
  | 52 => 52#32
  | 53 => 51#32
  | 54 => 50#32
  | 55 => 49#32
  | 56 => 41#32
  | 57 => 40#32
  | 58 => 39#32
  | 59 => 38#32
  | 60 => 37#32
  | 61 => 36#32
  | 62 => 35#32
  | 63 => 34#32
  | 64 => 147#32
  | 65 => 146#32
  | 66 => 145#32
  | 67 => 144#32
  | 68 => 143#32
  | 69 => 142#32
  | 70 => 141#32
  | 71 => 140#32
  | 72 => 132#32
  | 73 => 131#32
  | 74 => 130#32
  | 75 => 129#32
  | 76 => 128#32
  | 77 => 127#32
  | 78 => 126#32
  | 79 => 125#32
  | 80 => 117#32
  | 81 => 116#32
  | 82 => 115#32
  | 83 => 114#32
  | 84 => 113#32
  | 85 => 112#32
  | 86 => 111#32
  | 87 => 110#32
  | 88 => 102#32
  | 89 => 101#32
  | 90 => 100#32
  | 91 => 99#32
  | 92 => 98#32
  | 93 => 97#32
  | 94 => 96#32
  | 95 => 95#32
  | 96 => 87#32
  | 97 => 86#32
  | 98 => 85#32
  | 99 => 84#32
  | 100 => 83#32
  | 101 => 82#32
  | 102 => 81#32
  | 103 => 80#32
  | 104 => 72#32
  | 105 => 71#32
  | 106 => 70#32
  | 107 => 69#32
  | 108 => 68#32
  | 109 => 67#32
  | 110 => 66#32
  | 111 => 65#32
  | 112 => 57#32
  | 113 => 56#32
  | 114 => 55#32
  | 115 => 54#32
  | 116 => 53#32
  | 117 => 52#32
  | 118 => 51#32
  | 119 => 50#32
  | 120 => 42#32
  | 121 => 41#32
  | 122 => 40#32
  | 123 => 39#32
  | 124 => 38#32
  | 125 => 37#32
  | 126 => 36#32
  | 127 => 35#32
  | _ => 0#32

noncomputable abbrev lit0t0_11 (i : Nat) : BitVec 32 := match i % 128 with
  | 0 => 148#32
  | 1 => 147#32
  | 2 => 146#32
  | 3 => 145#32
  | 4 => 144#32
  | 5 => 143#32
  | 6 => 142#32
  | 7 => 141#32
  | 8 => 133#32
  | 9 => 132#32
  | 10 => 131#32
  | 11 => 130#32
  | 12 => 129#32
  | 13 => 128#32
  | 14 => 127#32
  | 15 => 126#32
  | 16 => 118#32
  | 17 => 117#32
  | 18 => 116#32
  | 19 => 115#32
  | 20 => 114#32
  | 21 => 113#32
  | 22 => 112#32
  | 23 => 111#32
  | 24 => 103#32
  | 25 => 102#32
  | 26 => 101#32
  | 27 => 100#32
  | 28 => 99#32
  | 29 => 98#32
  | 30 => 97#32
  | 31 => 96#32
  | 32 => 88#32
  | 33 => 87#32
  | 34 => 86#32
  | 35 => 85#32
  | 36 => 84#32
  | 37 => 83#32
  | 38 => 82#32
  | 39 => 81#32
  | 40 => 73#32
  | 41 => 72#32
  | 42 => 71#32
  | 43 => 70#32
  | 44 => 69#32
  | 45 => 68#32
  | 46 => 67#32
  | 47 => 66#32
  | 48 => 58#32
  | 49 => 57#32
  | 50 => 56#32
  | 51 => 55#32
  | 52 => 54#32
  | 53 => 53#32
  | 54 => 52#32
  | 55 => 51#32
  | 56 => 43#32
  | 57 => 42#32
  | 58 => 41#32
  | 59 => 40#32
  | 60 => 39#32
  | 61 => 38#32
  | 62 => 37#32
  | 63 => 36#32
  | 64 => 149#32
  | 65 => 148#32
  | 66 => 147#32
  | 67 => 146#32
  | 68 => 145#32
  | 69 => 144#32
  | 70 => 143#32
  | 71 => 142#32
  | 72 => 134#32
  | 73 => 133#32
  | 74 => 132#32
  | 75 => 131#32
  | 76 => 130#32
  | 77 => 129#32
  | 78 => 128#32
  | 79 => 127#32
  | 80 => 119#32
  | 81 => 118#32
  | 82 => 117#32
  | 83 => 116#32
  | 84 => 115#32
  | 85 => 114#32
  | 86 => 113#32
  | 87 => 112#32
  | 88 => 104#32
  | 89 => 103#32
  | 90 => 102#32
  | 91 => 101#32
  | 92 => 100#32
  | 93 => 99#32
  | 94 => 98#32
  | 95 => 97#32
  | 96 => 89#32
  | 97 => 88#32
  | 98 => 87#32
  | 99 => 86#32
  | 100 => 85#32
  | 101 => 84#32
  | 102 => 83#32
  | 103 => 82#32
  | 104 => 74#32
  | 105 => 73#32
  | 106 => 72#32
  | 107 => 71#32
  | 108 => 70#32
  | 109 => 69#32
  | 110 => 68#32
  | 111 => 67#32
  | 112 => 59#32
  | 113 => 58#32
  | 114 => 57#32
  | 115 => 56#32
  | 116 => 55#32
  | 117 => 54#32
  | 118 => 53#32
  | 119 => 52#32
  | 120 => 44#32
  | 121 => 43#32
  | 122 => 42#32
  | 123 => 41#32
  | 124 => 40#32
  | 125 => 39#32
  | 126 => 38#32
  | 127 => 37#32
  | _ => 0#32

noncomputable abbrev lit0t0_12 (i : Nat) : BitVec 32 := match i % 128 with
  | 0 => 157#32
  | 1 => 156#32
  | 2 => 155#32
  | 3 => 154#32
  | 4 => 153#32
  | 5 => 152#32
  | 6 => 151#32
  | 7 => 150#32
  | 8 => 142#32
  | 9 => 141#32
  | 10 => 140#32
  | 11 => 139#32
  | 12 => 138#32
  | 13 => 137#32
  | 14 => 136#32
  | 15 => 135#32
  | 16 => 127#32
  | 17 => 126#32
  | 18 => 125#32
  | 19 => 124#32
  | 20 => 123#32
  | 21 => 122#32
  | 22 => 121#32
  | 23 => 120#32
  | 24 => 112#32
  | 25 => 111#32
  | 26 => 110#32
  | 27 => 109#32
  | 28 => 108#32
  | 29 => 107#32
  | 30 => 106#32
  | 31 => 105#32
  | 32 => 97#32
  | 33 => 96#32
  | 34 => 95#32
  | 35 => 94#32
  | 36 => 93#32
  | 37 => 92#32
  | 38 => 91#32
  | 39 => 90#32
  | 40 => 82#32
  | 41 => 81#32
  | 42 => 80#32
  | 43 => 79#32
  | 44 => 78#32
  | 45 => 77#32
  | 46 => 76#32
  | 47 => 75#32
  | 48 => 67#32
  | 49 => 66#32
  | 50 => 65#32
  | 51 => 64#32
  | 52 => 63#32
  | 53 => 62#32
  | 54 => 61#32
  | 55 => 60#32
  | 56 => 52#32
  | 57 => 51#32
  | 58 => 50#32
  | 59 => 49#32
  | 60 => 48#32
  | 61 => 47#32
  | 62 => 46#32
  | 63 => 45#32
  | 64 => 158#32
  | 65 => 157#32
  | 66 => 156#32
  | 67 => 155#32
  | 68 => 154#32
  | 69 => 153#32
  | 70 => 152#32
  | 71 => 151#32
  | 72 => 143#32
  | 73 => 142#32
  | 74 => 141#32
  | 75 => 140#32
  | 76 => 139#32
  | 77 => 138#32
  | 78 => 137#32
  | 79 => 136#32
  | 80 => 128#32
  | 81 => 127#32
  | 82 => 126#32
  | 83 => 125#32
  | 84 => 124#32
  | 85 => 123#32
  | 86 => 122#32
  | 87 => 121#32
  | 88 => 113#32
  | 89 => 112#32
  | 90 => 111#32
  | 91 => 110#32
  | 92 => 109#32
  | 93 => 108#32
  | 94 => 107#32
  | 95 => 106#32
  | 96 => 98#32
  | 97 => 97#32
  | 98 => 96#32
  | 99 => 95#32
  | 100 => 94#32
  | 101 => 93#32
  | 102 => 92#32
  | 103 => 91#32
  | 104 => 83#32
  | 105 => 82#32
  | 106 => 81#32
  | 107 => 80#32
  | 108 => 79#32
  | 109 => 78#32
  | 110 => 77#32
  | 111 => 76#32
  | 112 => 68#32
  | 113 => 67#32
  | 114 => 66#32
  | 115 => 65#32
  | 116 => 64#32
  | 117 => 63#32
  | 118 => 62#32
  | 119 => 61#32
  | 120 => 53#32
  | 121 => 52#32
  | 122 => 51#32
  | 123 => 50#32
  | 124 => 49#32
  | 125 => 48#32
  | 126 => 47#32
  | 127 => 46#32
  | _ => 0#32

noncomputable abbrev lit0t0_13 (i : Nat) : BitVec 32 := match i % 128 with
  | 0 => 159#32
  | 1 => 158#32
  | 2 => 157#32
  | 3 => 156#32
  | 4 => 155#32
  | 5 => 154#32
  | 6 => 153#32
  | 7 => 152#32
  | 8 => 144#32
  | 9 => 143#32
  | 10 => 142#32
  | 11 => 141#32
  | 12 => 140#32
  | 13 => 139#32
  | 14 => 138#32
  | 15 => 137#32
  | 16 => 129#32
  | 17 => 128#32
  | 18 => 127#32
  | 19 => 126#32
  | 20 => 125#32
  | 21 => 124#32
  | 22 => 123#32
  | 23 => 122#32
  | 24 => 114#32
  | 25 => 113#32
  | 26 => 112#32
  | 27 => 111#32
  | 28 => 110#32
  | 29 => 109#32
  | 30 => 108#32
  | 31 => 107#32
  | 32 => 99#32
  | 33 => 98#32
  | 34 => 97#32
  | 35 => 96#32
  | 36 => 95#32
  | 37 => 94#32
  | 38 => 93#32
  | 39 => 92#32
  | 40 => 84#32
  | 41 => 83#32
  | 42 => 82#32
  | 43 => 81#32
  | 44 => 80#32
  | 45 => 79#32
  | 46 => 78#32
  | 47 => 77#32
  | 48 => 69#32
  | 49 => 68#32
  | 50 => 67#32
  | 51 => 66#32
  | 52 => 65#32
  | 53 => 64#32
  | 54 => 63#32
  | 55 => 62#32
  | 56 => 54#32
  | 57 => 53#32
  | 58 => 52#32
  | 59 => 51#32
  | 60 => 50#32
  | 61 => 49#32
  | 62 => 48#32
  | 63 => 47#32
  | 64 => 160#32
  | 65 => 159#32
  | 66 => 158#32
  | 67 => 157#32
  | 68 => 156#32
  | 69 => 155#32
  | 70 => 154#32
  | 71 => 153#32
  | 72 => 145#32
  | 73 => 144#32
  | 74 => 143#32
  | 75 => 142#32
  | 76 => 141#32
  | 77 => 140#32
  | 78 => 139#32
  | 79 => 138#32
  | 80 => 130#32
  | 81 => 129#32
  | 82 => 128#32
  | 83 => 127#32
  | 84 => 126#32
  | 85 => 125#32
  | 86 => 124#32
  | 87 => 123#32
  | 88 => 115#32
  | 89 => 114#32
  | 90 => 113#32
  | 91 => 112#32
  | 92 => 111#32
  | 93 => 110#32
  | 94 => 109#32
  | 95 => 108#32
  | 96 => 100#32
  | 97 => 99#32
  | 98 => 98#32
  | 99 => 97#32
  | 100 => 96#32
  | 101 => 95#32
  | 102 => 94#32
  | 103 => 93#32
  | 104 => 85#32
  | 105 => 84#32
  | 106 => 83#32
  | 107 => 82#32
  | 108 => 81#32
  | 109 => 80#32
  | 110 => 79#32
  | 111 => 78#32
  | 112 => 70#32
  | 113 => 69#32
  | 114 => 68#32
  | 115 => 67#32
  | 116 => 66#32
  | 117 => 65#32
  | 118 => 64#32
  | 119 => 63#32
  | 120 => 55#32
  | 121 => 54#32
  | 122 => 53#32
  | 123 => 52#32
  | 124 => 51#32
  | 125 => 50#32
  | 126 => 49#32
  | 127 => 48#32
  | _ => 0#32

noncomputable abbrev lit0t0_14 (i : Nat) : BitVec 32 := match i % 128 with
  | 0 => 161#32
  | 1 => 160#32
  | 2 => 159#32
  | 3 => 158#32
  | 4 => 157#32
  | 5 => 156#32
  | 6 => 155#32
  | 7 => 154#32
  | 8 => 146#32
  | 9 => 145#32
  | 10 => 144#32
  | 11 => 143#32
  | 12 => 142#32
  | 13 => 141#32
  | 14 => 140#32
  | 15 => 139#32
  | 16 => 131#32
  | 17 => 130#32
  | 18 => 129#32
  | 19 => 128#32
  | 20 => 127#32
  | 21 => 126#32
  | 22 => 125#32
  | 23 => 124#32
  | 24 => 116#32
  | 25 => 115#32
  | 26 => 114#32
  | 27 => 113#32
  | 28 => 112#32
  | 29 => 111#32
  | 30 => 110#32
  | 31 => 109#32
  | 32 => 101#32
  | 33 => 100#32
  | 34 => 99#32
  | 35 => 98#32
  | 36 => 97#32
  | 37 => 96#32
  | 38 => 95#32
  | 39 => 94#32
  | 40 => 86#32
  | 41 => 85#32
  | 42 => 84#32
  | 43 => 83#32
  | 44 => 82#32
  | 45 => 81#32
  | 46 => 80#32
  | 47 => 79#32
  | 48 => 71#32
  | 49 => 70#32
  | 50 => 69#32
  | 51 => 68#32
  | 52 => 67#32
  | 53 => 66#32
  | 54 => 65#32
  | 55 => 64#32
  | 56 => 56#32
  | 57 => 55#32
  | 58 => 54#32
  | 59 => 53#32
  | 60 => 52#32
  | 61 => 51#32
  | 62 => 50#32
  | 63 => 49#32
  | 64 => 162#32
  | 65 => 161#32
  | 66 => 160#32
  | 67 => 159#32
  | 68 => 158#32
  | 69 => 157#32
  | 70 => 156#32
  | 71 => 155#32
  | 72 => 147#32
  | 73 => 146#32
  | 74 => 145#32
  | 75 => 144#32
  | 76 => 143#32
  | 77 => 142#32
  | 78 => 141#32
  | 79 => 140#32
  | 80 => 132#32
  | 81 => 131#32
  | 82 => 130#32
  | 83 => 129#32
  | 84 => 128#32
  | 85 => 127#32
  | 86 => 126#32
  | 87 => 125#32
  | 88 => 117#32
  | 89 => 116#32
  | 90 => 115#32
  | 91 => 114#32
  | 92 => 113#32
  | 93 => 112#32
  | 94 => 111#32
  | 95 => 110#32
  | 96 => 102#32
  | 97 => 101#32
  | 98 => 100#32
  | 99 => 99#32
  | 100 => 98#32
  | 101 => 97#32
  | 102 => 96#32
  | 103 => 95#32
  | 104 => 87#32
  | 105 => 86#32
  | 106 => 85#32
  | 107 => 84#32
  | 108 => 83#32
  | 109 => 82#32
  | 110 => 81#32
  | 111 => 80#32
  | 112 => 72#32
  | 113 => 71#32
  | 114 => 70#32
  | 115 => 69#32
  | 116 => 68#32
  | 117 => 67#32
  | 118 => 66#32
  | 119 => 65#32
  | 120 => 57#32
  | 121 => 56#32
  | 122 => 55#32
  | 123 => 54#32
  | 124 => 53#32
  | 125 => 52#32
  | 126 => 51#32
  | 127 => 50#32
  | _ => 0#32

noncomputable abbrev lit0t0_15 (i : Nat) : BitVec 32 := match i % 128 with
  | 0 => 163#32
  | 1 => 162#32
  | 2 => 161#32
  | 3 => 160#32
  | 4 => 159#32
  | 5 => 158#32
  | 6 => 157#32
  | 7 => 156#32
  | 8 => 148#32
  | 9 => 147#32
  | 10 => 146#32
  | 11 => 145#32
  | 12 => 144#32
  | 13 => 143#32
  | 14 => 142#32
  | 15 => 141#32
  | 16 => 133#32
  | 17 => 132#32
  | 18 => 131#32
  | 19 => 130#32
  | 20 => 129#32
  | 21 => 128#32
  | 22 => 127#32
  | 23 => 126#32
  | 24 => 118#32
  | 25 => 117#32
  | 26 => 116#32
  | 27 => 115#32
  | 28 => 114#32
  | 29 => 113#32
  | 30 => 112#32
  | 31 => 111#32
  | 32 => 103#32
  | 33 => 102#32
  | 34 => 101#32
  | 35 => 100#32
  | 36 => 99#32
  | 37 => 98#32
  | 38 => 97#32
  | 39 => 96#32
  | 40 => 88#32
  | 41 => 87#32
  | 42 => 86#32
  | 43 => 85#32
  | 44 => 84#32
  | 45 => 83#32
  | 46 => 82#32
  | 47 => 81#32
  | 48 => 73#32
  | 49 => 72#32
  | 50 => 71#32
  | 51 => 70#32
  | 52 => 69#32
  | 53 => 68#32
  | 54 => 67#32
  | 55 => 66#32
  | 56 => 58#32
  | 57 => 57#32
  | 58 => 56#32
  | 59 => 55#32
  | 60 => 54#32
  | 61 => 53#32
  | 62 => 52#32
  | 63 => 51#32
  | 64 => 164#32
  | 65 => 163#32
  | 66 => 162#32
  | 67 => 161#32
  | 68 => 160#32
  | 69 => 159#32
  | 70 => 158#32
  | 71 => 157#32
  | 72 => 149#32
  | 73 => 148#32
  | 74 => 147#32
  | 75 => 146#32
  | 76 => 145#32
  | 77 => 144#32
  | 78 => 143#32
  | 79 => 142#32
  | 80 => 134#32
  | 81 => 133#32
  | 82 => 132#32
  | 83 => 131#32
  | 84 => 130#32
  | 85 => 129#32
  | 86 => 128#32
  | 87 => 127#32
  | 88 => 119#32
  | 89 => 118#32
  | 90 => 117#32
  | 91 => 116#32
  | 92 => 115#32
  | 93 => 114#32
  | 94 => 113#32
  | 95 => 112#32
  | 96 => 104#32
  | 97 => 103#32
  | 98 => 102#32
  | 99 => 101#32
  | 100 => 100#32
  | 101 => 99#32
  | 102 => 98#32
  | 103 => 97#32
  | 104 => 89#32
  | 105 => 88#32
  | 106 => 87#32
  | 107 => 86#32
  | 108 => 85#32
  | 109 => 84#32
  | 110 => 83#32
  | 111 => 82#32
  | 112 => 74#32
  | 113 => 73#32
  | 114 => 72#32
  | 115 => 71#32
  | 116 => 70#32
  | 117 => 69#32
  | 118 => 68#32
  | 119 => 67#32
  | 120 => 59#32
  | 121 => 58#32
  | 122 => 57#32
  | 123 => 56#32
  | 124 => 55#32
  | 125 => 54#32
  | 126 => 53#32
  | 127 => 52#32
  | _ => 0#32

noncomputable abbrev lit0t0_16 (i : Nat) : BitVec 32 := match i % 128 with
  | 0 => 172#32
  | 1 => 171#32
  | 2 => 170#32
  | 3 => 169#32
  | 4 => 168#32
  | 5 => 167#32
  | 6 => 166#32
  | 7 => 165#32
  | 8 => 157#32
  | 9 => 156#32
  | 10 => 155#32
  | 11 => 154#32
  | 12 => 153#32
  | 13 => 152#32
  | 14 => 151#32
  | 15 => 150#32
  | 16 => 142#32
  | 17 => 141#32
  | 18 => 140#32
  | 19 => 139#32
  | 20 => 138#32
  | 21 => 137#32
  | 22 => 136#32
  | 23 => 135#32
  | 24 => 127#32
  | 25 => 126#32
  | 26 => 125#32
  | 27 => 124#32
  | 28 => 123#32
  | 29 => 122#32
  | 30 => 121#32
  | 31 => 120#32
  | 32 => 112#32
  | 33 => 111#32
  | 34 => 110#32
  | 35 => 109#32
  | 36 => 108#32
  | 37 => 107#32
  | 38 => 106#32
  | 39 => 105#32
  | 40 => 97#32
  | 41 => 96#32
  | 42 => 95#32
  | 43 => 94#32
  | 44 => 93#32
  | 45 => 92#32
  | 46 => 91#32
  | 47 => 90#32
  | 48 => 82#32
  | 49 => 81#32
  | 50 => 80#32
  | 51 => 79#32
  | 52 => 78#32
  | 53 => 77#32
  | 54 => 76#32
  | 55 => 75#32
  | 56 => 67#32
  | 57 => 66#32
  | 58 => 65#32
  | 59 => 64#32
  | 60 => 63#32
  | 61 => 62#32
  | 62 => 61#32
  | 63 => 60#32
  | 64 => 173#32
  | 65 => 172#32
  | 66 => 171#32
  | 67 => 170#32
  | 68 => 169#32
  | 69 => 168#32
  | 70 => 167#32
  | 71 => 166#32
  | 72 => 158#32
  | 73 => 157#32
  | 74 => 156#32
  | 75 => 155#32
  | 76 => 154#32
  | 77 => 153#32
  | 78 => 152#32
  | 79 => 151#32
  | 80 => 143#32
  | 81 => 142#32
  | 82 => 141#32
  | 83 => 140#32
  | 84 => 139#32
  | 85 => 138#32
  | 86 => 137#32
  | 87 => 136#32
  | 88 => 128#32
  | 89 => 127#32
  | 90 => 126#32
  | 91 => 125#32
  | 92 => 124#32
  | 93 => 123#32
  | 94 => 122#32
  | 95 => 121#32
  | 96 => 113#32
  | 97 => 112#32
  | 98 => 111#32
  | 99 => 110#32
  | 100 => 109#32
  | 101 => 108#32
  | 102 => 107#32
  | 103 => 106#32
  | 104 => 98#32
  | 105 => 97#32
  | 106 => 96#32
  | 107 => 95#32
  | 108 => 94#32
  | 109 => 93#32
  | 110 => 92#32
  | 111 => 91#32
  | 112 => 83#32
  | 113 => 82#32
  | 114 => 81#32
  | 115 => 80#32
  | 116 => 79#32
  | 117 => 78#32
  | 118 => 77#32
  | 119 => 76#32
  | 120 => 68#32
  | 121 => 67#32
  | 122 => 66#32
  | 123 => 65#32
  | 124 => 64#32
  | 125 => 63#32
  | 126 => 62#32
  | 127 => 61#32
  | _ => 0#32

noncomputable abbrev lit0t0_17 (i : Nat) : BitVec 32 := match i % 128 with
  | 0 => 174#32
  | 1 => 173#32
  | 2 => 172#32
  | 3 => 171#32
  | 4 => 170#32
  | 5 => 169#32
  | 6 => 168#32
  | 7 => 167#32
  | 8 => 159#32
  | 9 => 158#32
  | 10 => 157#32
  | 11 => 156#32
  | 12 => 155#32
  | 13 => 154#32
  | 14 => 153#32
  | 15 => 152#32
  | 16 => 144#32
  | 17 => 143#32
  | 18 => 142#32
  | 19 => 141#32
  | 20 => 140#32
  | 21 => 139#32
  | 22 => 138#32
  | 23 => 137#32
  | 24 => 129#32
  | 25 => 128#32
  | 26 => 127#32
  | 27 => 126#32
  | 28 => 125#32
  | 29 => 124#32
  | 30 => 123#32
  | 31 => 122#32
  | 32 => 114#32
  | 33 => 113#32
  | 34 => 112#32
  | 35 => 111#32
  | 36 => 110#32
  | 37 => 109#32
  | 38 => 108#32
  | 39 => 107#32
  | 40 => 99#32
  | 41 => 98#32
  | 42 => 97#32
  | 43 => 96#32
  | 44 => 95#32
  | 45 => 94#32
  | 46 => 93#32
  | 47 => 92#32
  | 48 => 84#32
  | 49 => 83#32
  | 50 => 82#32
  | 51 => 81#32
  | 52 => 80#32
  | 53 => 79#32
  | 54 => 78#32
  | 55 => 77#32
  | 56 => 69#32
  | 57 => 68#32
  | 58 => 67#32
  | 59 => 66#32
  | 60 => 65#32
  | 61 => 64#32
  | 62 => 63#32
  | 63 => 62#32
  | 64 => 175#32
  | 65 => 174#32
  | 66 => 173#32
  | 67 => 172#32
  | 68 => 171#32
  | 69 => 170#32
  | 70 => 169#32
  | 71 => 168#32
  | 72 => 160#32
  | 73 => 159#32
  | 74 => 158#32
  | 75 => 157#32
  | 76 => 156#32
  | 77 => 155#32
  | 78 => 154#32
  | 79 => 153#32
  | 80 => 145#32
  | 81 => 144#32
  | 82 => 143#32
  | 83 => 142#32
  | 84 => 141#32
  | 85 => 140#32
  | 86 => 139#32
  | 87 => 138#32
  | 88 => 130#32
  | 89 => 129#32
  | 90 => 128#32
  | 91 => 127#32
  | 92 => 126#32
  | 93 => 125#32
  | 94 => 124#32
  | 95 => 123#32
  | 96 => 115#32
  | 97 => 114#32
  | 98 => 113#32
  | 99 => 112#32
  | 100 => 111#32
  | 101 => 110#32
  | 102 => 109#32
  | 103 => 108#32
  | 104 => 100#32
  | 105 => 99#32
  | 106 => 98#32
  | 107 => 97#32
  | 108 => 96#32
  | 109 => 95#32
  | 110 => 94#32
  | 111 => 93#32
  | 112 => 85#32
  | 113 => 84#32
  | 114 => 83#32
  | 115 => 82#32
  | 116 => 81#32
  | 117 => 80#32
  | 118 => 79#32
  | 119 => 78#32
  | 120 => 70#32
  | 121 => 69#32
  | 122 => 68#32
  | 123 => 67#32
  | 124 => 66#32
  | 125 => 65#32
  | 126 => 64#32
  | 127 => 63#32
  | _ => 0#32

noncomputable abbrev lit0t0_18 (i : Nat) : BitVec 32 := match i % 128 with
  | 0 => 176#32
  | 1 => 175#32
  | 2 => 174#32
  | 3 => 173#32
  | 4 => 172#32
  | 5 => 171#32
  | 6 => 170#32
  | 7 => 169#32
  | 8 => 161#32
  | 9 => 160#32
  | 10 => 159#32
  | 11 => 158#32
  | 12 => 157#32
  | 13 => 156#32
  | 14 => 155#32
  | 15 => 154#32
  | 16 => 146#32
  | 17 => 145#32
  | 18 => 144#32
  | 19 => 143#32
  | 20 => 142#32
  | 21 => 141#32
  | 22 => 140#32
  | 23 => 139#32
  | 24 => 131#32
  | 25 => 130#32
  | 26 => 129#32
  | 27 => 128#32
  | 28 => 127#32
  | 29 => 126#32
  | 30 => 125#32
  | 31 => 124#32
  | 32 => 116#32
  | 33 => 115#32
  | 34 => 114#32
  | 35 => 113#32
  | 36 => 112#32
  | 37 => 111#32
  | 38 => 110#32
  | 39 => 109#32
  | 40 => 101#32
  | 41 => 100#32
  | 42 => 99#32
  | 43 => 98#32
  | 44 => 97#32
  | 45 => 96#32
  | 46 => 95#32
  | 47 => 94#32
  | 48 => 86#32
  | 49 => 85#32
  | 50 => 84#32
  | 51 => 83#32
  | 52 => 82#32
  | 53 => 81#32
  | 54 => 80#32
  | 55 => 79#32
  | 56 => 71#32
  | 57 => 70#32
  | 58 => 69#32
  | 59 => 68#32
  | 60 => 67#32
  | 61 => 66#32
  | 62 => 65#32
  | 63 => 64#32
  | 64 => 177#32
  | 65 => 176#32
  | 66 => 175#32
  | 67 => 174#32
  | 68 => 173#32
  | 69 => 172#32
  | 70 => 171#32
  | 71 => 170#32
  | 72 => 162#32
  | 73 => 161#32
  | 74 => 160#32
  | 75 => 159#32
  | 76 => 158#32
  | 77 => 157#32
  | 78 => 156#32
  | 79 => 155#32
  | 80 => 147#32
  | 81 => 146#32
  | 82 => 145#32
  | 83 => 144#32
  | 84 => 143#32
  | 85 => 142#32
  | 86 => 141#32
  | 87 => 140#32
  | 88 => 132#32
  | 89 => 131#32
  | 90 => 130#32
  | 91 => 129#32
  | 92 => 128#32
  | 93 => 127#32
  | 94 => 126#32
  | 95 => 125#32
  | 96 => 117#32
  | 97 => 116#32
  | 98 => 115#32
  | 99 => 114#32
  | 100 => 113#32
  | 101 => 112#32
  | 102 => 111#32
  | 103 => 110#32
  | 104 => 102#32
  | 105 => 101#32
  | 106 => 100#32
  | 107 => 99#32
  | 108 => 98#32
  | 109 => 97#32
  | 110 => 96#32
  | 111 => 95#32
  | 112 => 87#32
  | 113 => 86#32
  | 114 => 85#32
  | 115 => 84#32
  | 116 => 83#32
  | 117 => 82#32
  | 118 => 81#32
  | 119 => 80#32
  | 120 => 72#32
  | 121 => 71#32
  | 122 => 70#32
  | 123 => 69#32
  | 124 => 68#32
  | 125 => 67#32
  | 126 => 66#32
  | 127 => 65#32
  | _ => 0#32

noncomputable abbrev lit0t0_19 (i : Nat) : BitVec 32 := match i % 128 with
  | 0 => 178#32
  | 1 => 177#32
  | 2 => 176#32
  | 3 => 175#32
  | 4 => 174#32
  | 5 => 173#32
  | 6 => 172#32
  | 7 => 171#32
  | 8 => 163#32
  | 9 => 162#32
  | 10 => 161#32
  | 11 => 160#32
  | 12 => 159#32
  | 13 => 158#32
  | 14 => 157#32
  | 15 => 156#32
  | 16 => 148#32
  | 17 => 147#32
  | 18 => 146#32
  | 19 => 145#32
  | 20 => 144#32
  | 21 => 143#32
  | 22 => 142#32
  | 23 => 141#32
  | 24 => 133#32
  | 25 => 132#32
  | 26 => 131#32
  | 27 => 130#32
  | 28 => 129#32
  | 29 => 128#32
  | 30 => 127#32
  | 31 => 126#32
  | 32 => 118#32
  | 33 => 117#32
  | 34 => 116#32
  | 35 => 115#32
  | 36 => 114#32
  | 37 => 113#32
  | 38 => 112#32
  | 39 => 111#32
  | 40 => 103#32
  | 41 => 102#32
  | 42 => 101#32
  | 43 => 100#32
  | 44 => 99#32
  | 45 => 98#32
  | 46 => 97#32
  | 47 => 96#32
  | 48 => 88#32
  | 49 => 87#32
  | 50 => 86#32
  | 51 => 85#32
  | 52 => 84#32
  | 53 => 83#32
  | 54 => 82#32
  | 55 => 81#32
  | 56 => 73#32
  | 57 => 72#32
  | 58 => 71#32
  | 59 => 70#32
  | 60 => 69#32
  | 61 => 68#32
  | 62 => 67#32
  | 63 => 66#32
  | 64 => 179#32
  | 65 => 178#32
  | 66 => 177#32
  | 67 => 176#32
  | 68 => 175#32
  | 69 => 174#32
  | 70 => 173#32
  | 71 => 172#32
  | 72 => 164#32
  | 73 => 163#32
  | 74 => 162#32
  | 75 => 161#32
  | 76 => 160#32
  | 77 => 159#32
  | 78 => 158#32
  | 79 => 157#32
  | 80 => 149#32
  | 81 => 148#32
  | 82 => 147#32
  | 83 => 146#32
  | 84 => 145#32
  | 85 => 144#32
  | 86 => 143#32
  | 87 => 142#32
  | 88 => 134#32
  | 89 => 133#32
  | 90 => 132#32
  | 91 => 131#32
  | 92 => 130#32
  | 93 => 129#32
  | 94 => 128#32
  | 95 => 127#32
  | 96 => 119#32
  | 97 => 118#32
  | 98 => 117#32
  | 99 => 116#32
  | 100 => 115#32
  | 101 => 114#32
  | 102 => 113#32
  | 103 => 112#32
  | 104 => 104#32
  | 105 => 103#32
  | 106 => 102#32
  | 107 => 101#32
  | 108 => 100#32
  | 109 => 99#32
  | 110 => 98#32
  | 111 => 97#32
  | 112 => 89#32
  | 113 => 88#32
  | 114 => 87#32
  | 115 => 86#32
  | 116 => 85#32
  | 117 => 84#32
  | 118 => 83#32
  | 119 => 82#32
  | 120 => 74#32
  | 121 => 73#32
  | 122 => 72#32
  | 123 => 71#32
  | 124 => 70#32
  | 125 => 69#32
  | 126 => 68#32
  | 127 => 67#32
  | _ => 0#32

noncomputable abbrev lit0t0_20 (i : Nat) : BitVec 32 := match i % 128 with
  | 0 => 187#32
  | 1 => 186#32
  | 2 => 185#32
  | 3 => 184#32
  | 4 => 183#32
  | 5 => 182#32
  | 6 => 181#32
  | 7 => 180#32
  | 8 => 172#32
  | 9 => 171#32
  | 10 => 170#32
  | 11 => 169#32
  | 12 => 168#32
  | 13 => 167#32
  | 14 => 166#32
  | 15 => 165#32
  | 16 => 157#32
  | 17 => 156#32
  | 18 => 155#32
  | 19 => 154#32
  | 20 => 153#32
  | 21 => 152#32
  | 22 => 151#32
  | 23 => 150#32
  | 24 => 142#32
  | 25 => 141#32
  | 26 => 140#32
  | 27 => 139#32
  | 28 => 138#32
  | 29 => 137#32
  | 30 => 136#32
  | 31 => 135#32
  | 32 => 127#32
  | 33 => 126#32
  | 34 => 125#32
  | 35 => 124#32
  | 36 => 123#32
  | 37 => 122#32
  | 38 => 121#32
  | 39 => 120#32
  | 40 => 112#32
  | 41 => 111#32
  | 42 => 110#32
  | 43 => 109#32
  | 44 => 108#32
  | 45 => 107#32
  | 46 => 106#32
  | 47 => 105#32
  | 48 => 97#32
  | 49 => 96#32
  | 50 => 95#32
  | 51 => 94#32
  | 52 => 93#32
  | 53 => 92#32
  | 54 => 91#32
  | 55 => 90#32
  | 56 => 82#32
  | 57 => 81#32
  | 58 => 80#32
  | 59 => 79#32
  | 60 => 78#32
  | 61 => 77#32
  | 62 => 76#32
  | 63 => 75#32
  | 64 => 188#32
  | 65 => 187#32
  | 66 => 186#32
  | 67 => 185#32
  | 68 => 184#32
  | 69 => 183#32
  | 70 => 182#32
  | 71 => 181#32
  | 72 => 173#32
  | 73 => 172#32
  | 74 => 171#32
  | 75 => 170#32
  | 76 => 169#32
  | 77 => 168#32
  | 78 => 167#32
  | 79 => 166#32
  | 80 => 158#32
  | 81 => 157#32
  | 82 => 156#32
  | 83 => 155#32
  | 84 => 154#32
  | 85 => 153#32
  | 86 => 152#32
  | 87 => 151#32
  | 88 => 143#32
  | 89 => 142#32
  | 90 => 141#32
  | 91 => 140#32
  | 92 => 139#32
  | 93 => 138#32
  | 94 => 137#32
  | 95 => 136#32
  | 96 => 128#32
  | 97 => 127#32
  | 98 => 126#32
  | 99 => 125#32
  | 100 => 124#32
  | 101 => 123#32
  | 102 => 122#32
  | 103 => 121#32
  | 104 => 113#32
  | 105 => 112#32
  | 106 => 111#32
  | 107 => 110#32
  | 108 => 109#32
  | 109 => 108#32
  | 110 => 107#32
  | 111 => 106#32
  | 112 => 98#32
  | 113 => 97#32
  | 114 => 96#32
  | 115 => 95#32
  | 116 => 94#32
  | 117 => 93#32
  | 118 => 92#32
  | 119 => 91#32
  | 120 => 83#32
  | 121 => 82#32
  | 122 => 81#32
  | 123 => 80#32
  | 124 => 79#32
  | 125 => 78#32
  | 126 => 77#32
  | 127 => 76#32
  | _ => 0#32

noncomputable abbrev lit0t0_21 (i : Nat) : BitVec 32 := match i % 128 with
  | 0 => 189#32
  | 1 => 188#32
  | 2 => 187#32
  | 3 => 186#32
  | 4 => 185#32
  | 5 => 184#32
  | 6 => 183#32
  | 7 => 182#32
  | 8 => 174#32
  | 9 => 173#32
  | 10 => 172#32
  | 11 => 171#32
  | 12 => 170#32
  | 13 => 169#32
  | 14 => 168#32
  | 15 => 167#32
  | 16 => 159#32
  | 17 => 158#32
  | 18 => 157#32
  | 19 => 156#32
  | 20 => 155#32
  | 21 => 154#32
  | 22 => 153#32
  | 23 => 152#32
  | 24 => 144#32
  | 25 => 143#32
  | 26 => 142#32
  | 27 => 141#32
  | 28 => 140#32
  | 29 => 139#32
  | 30 => 138#32
  | 31 => 137#32
  | 32 => 129#32
  | 33 => 128#32
  | 34 => 127#32
  | 35 => 126#32
  | 36 => 125#32
  | 37 => 124#32
  | 38 => 123#32
  | 39 => 122#32
  | 40 => 114#32
  | 41 => 113#32
  | 42 => 112#32
  | 43 => 111#32
  | 44 => 110#32
  | 45 => 109#32
  | 46 => 108#32
  | 47 => 107#32
  | 48 => 99#32
  | 49 => 98#32
  | 50 => 97#32
  | 51 => 96#32
  | 52 => 95#32
  | 53 => 94#32
  | 54 => 93#32
  | 55 => 92#32
  | 56 => 84#32
  | 57 => 83#32
  | 58 => 82#32
  | 59 => 81#32
  | 60 => 80#32
  | 61 => 79#32
  | 62 => 78#32
  | 63 => 77#32
  | 64 => 190#32
  | 65 => 189#32
  | 66 => 188#32
  | 67 => 187#32
  | 68 => 186#32
  | 69 => 185#32
  | 70 => 184#32
  | 71 => 183#32
  | 72 => 175#32
  | 73 => 174#32
  | 74 => 173#32
  | 75 => 172#32
  | 76 => 171#32
  | 77 => 170#32
  | 78 => 169#32
  | 79 => 168#32
  | 80 => 160#32
  | 81 => 159#32
  | 82 => 158#32
  | 83 => 157#32
  | 84 => 156#32
  | 85 => 155#32
  | 86 => 154#32
  | 87 => 153#32
  | 88 => 145#32
  | 89 => 144#32
  | 90 => 143#32
  | 91 => 142#32
  | 92 => 141#32
  | 93 => 140#32
  | 94 => 139#32
  | 95 => 138#32
  | 96 => 130#32
  | 97 => 129#32
  | 98 => 128#32
  | 99 => 127#32
  | 100 => 126#32
  | 101 => 125#32
  | 102 => 124#32
  | 103 => 123#32
  | 104 => 115#32
  | 105 => 114#32
  | 106 => 113#32
  | 107 => 112#32
  | 108 => 111#32
  | 109 => 110#32
  | 110 => 109#32
  | 111 => 108#32
  | 112 => 100#32
  | 113 => 99#32
  | 114 => 98#32
  | 115 => 97#32
  | 116 => 96#32
  | 117 => 95#32
  | 118 => 94#32
  | 119 => 93#32
  | 120 => 85#32
  | 121 => 84#32
  | 122 => 83#32
  | 123 => 82#32
  | 124 => 81#32
  | 125 => 80#32
  | 126 => 79#32
  | 127 => 78#32
  | _ => 0#32

noncomputable abbrev lit0t0_22 (i : Nat) : BitVec 32 := match i % 128 with
  | 0 => 191#32
  | 1 => 190#32
  | 2 => 189#32
  | 3 => 188#32
  | 4 => 187#32
  | 5 => 186#32
  | 6 => 185#32
  | 7 => 184#32
  | 8 => 176#32
  | 9 => 175#32
  | 10 => 174#32
  | 11 => 173#32
  | 12 => 172#32
  | 13 => 171#32
  | 14 => 170#32
  | 15 => 169#32
  | 16 => 161#32
  | 17 => 160#32
  | 18 => 159#32
  | 19 => 158#32
  | 20 => 157#32
  | 21 => 156#32
  | 22 => 155#32
  | 23 => 154#32
  | 24 => 146#32
  | 25 => 145#32
  | 26 => 144#32
  | 27 => 143#32
  | 28 => 142#32
  | 29 => 141#32
  | 30 => 140#32
  | 31 => 139#32
  | 32 => 131#32
  | 33 => 130#32
  | 34 => 129#32
  | 35 => 128#32
  | 36 => 127#32
  | 37 => 126#32
  | 38 => 125#32
  | 39 => 124#32
  | 40 => 116#32
  | 41 => 115#32
  | 42 => 114#32
  | 43 => 113#32
  | 44 => 112#32
  | 45 => 111#32
  | 46 => 110#32
  | 47 => 109#32
  | 48 => 101#32
  | 49 => 100#32
  | 50 => 99#32
  | 51 => 98#32
  | 52 => 97#32
  | 53 => 96#32
  | 54 => 95#32
  | 55 => 94#32
  | 56 => 86#32
  | 57 => 85#32
  | 58 => 84#32
  | 59 => 83#32
  | 60 => 82#32
  | 61 => 81#32
  | 62 => 80#32
  | 63 => 79#32
  | 64 => 192#32
  | 65 => 191#32
  | 66 => 190#32
  | 67 => 189#32
  | 68 => 188#32
  | 69 => 187#32
  | 70 => 186#32
  | 71 => 185#32
  | 72 => 177#32
  | 73 => 176#32
  | 74 => 175#32
  | 75 => 174#32
  | 76 => 173#32
  | 77 => 172#32
  | 78 => 171#32
  | 79 => 170#32
  | 80 => 162#32
  | 81 => 161#32
  | 82 => 160#32
  | 83 => 159#32
  | 84 => 158#32
  | 85 => 157#32
  | 86 => 156#32
  | 87 => 155#32
  | 88 => 147#32
  | 89 => 146#32
  | 90 => 145#32
  | 91 => 144#32
  | 92 => 143#32
  | 93 => 142#32
  | 94 => 141#32
  | 95 => 140#32
  | 96 => 132#32
  | 97 => 131#32
  | 98 => 130#32
  | 99 => 129#32
  | 100 => 128#32
  | 101 => 127#32
  | 102 => 126#32
  | 103 => 125#32
  | 104 => 117#32
  | 105 => 116#32
  | 106 => 115#32
  | 107 => 114#32
  | 108 => 113#32
  | 109 => 112#32
  | 110 => 111#32
  | 111 => 110#32
  | 112 => 102#32
  | 113 => 101#32
  | 114 => 100#32
  | 115 => 99#32
  | 116 => 98#32
  | 117 => 97#32
  | 118 => 96#32
  | 119 => 95#32
  | 120 => 87#32
  | 121 => 86#32
  | 122 => 85#32
  | 123 => 84#32
  | 124 => 83#32
  | 125 => 82#32
  | 126 => 81#32
  | 127 => 80#32
  | _ => 0#32

noncomputable abbrev lit0t0_23 (i : Nat) : BitVec 32 := match i % 128 with
  | 0 => 193#32
  | 1 => 192#32
  | 2 => 191#32
  | 3 => 190#32
  | 4 => 189#32
  | 5 => 188#32
  | 6 => 187#32
  | 7 => 186#32
  | 8 => 178#32
  | 9 => 177#32
  | 10 => 176#32
  | 11 => 175#32
  | 12 => 174#32
  | 13 => 173#32
  | 14 => 172#32
  | 15 => 171#32
  | 16 => 163#32
  | 17 => 162#32
  | 18 => 161#32
  | 19 => 160#32
  | 20 => 159#32
  | 21 => 158#32
  | 22 => 157#32
  | 23 => 156#32
  | 24 => 148#32
  | 25 => 147#32
  | 26 => 146#32
  | 27 => 145#32
  | 28 => 144#32
  | 29 => 143#32
  | 30 => 142#32
  | 31 => 141#32
  | 32 => 133#32
  | 33 => 132#32
  | 34 => 131#32
  | 35 => 130#32
  | 36 => 129#32
  | 37 => 128#32
  | 38 => 127#32
  | 39 => 126#32
  | 40 => 118#32
  | 41 => 117#32
  | 42 => 116#32
  | 43 => 115#32
  | 44 => 114#32
  | 45 => 113#32
  | 46 => 112#32
  | 47 => 111#32
  | 48 => 103#32
  | 49 => 102#32
  | 50 => 101#32
  | 51 => 100#32
  | 52 => 99#32
  | 53 => 98#32
  | 54 => 97#32
  | 55 => 96#32
  | 56 => 88#32
  | 57 => 87#32
  | 58 => 86#32
  | 59 => 85#32
  | 60 => 84#32
  | 61 => 83#32
  | 62 => 82#32
  | 63 => 81#32
  | 64 => 194#32
  | 65 => 193#32
  | 66 => 192#32
  | 67 => 191#32
  | 68 => 190#32
  | 69 => 189#32
  | 70 => 188#32
  | 71 => 187#32
  | 72 => 179#32
  | 73 => 178#32
  | 74 => 177#32
  | 75 => 176#32
  | 76 => 175#32
  | 77 => 174#32
  | 78 => 173#32
  | 79 => 172#32
  | 80 => 164#32
  | 81 => 163#32
  | 82 => 162#32
  | 83 => 161#32
  | 84 => 160#32
  | 85 => 159#32
  | 86 => 158#32
  | 87 => 157#32
  | 88 => 149#32
  | 89 => 148#32
  | 90 => 147#32
  | 91 => 146#32
  | 92 => 145#32
  | 93 => 144#32
  | 94 => 143#32
  | 95 => 142#32
  | 96 => 134#32
  | 97 => 133#32
  | 98 => 132#32
  | 99 => 131#32
  | 100 => 130#32
  | 101 => 129#32
  | 102 => 128#32
  | 103 => 127#32
  | 104 => 119#32
  | 105 => 118#32
  | 106 => 117#32
  | 107 => 116#32
  | 108 => 115#32
  | 109 => 114#32
  | 110 => 113#32
  | 111 => 112#32
  | 112 => 104#32
  | 113 => 103#32
  | 114 => 102#32
  | 115 => 101#32
  | 116 => 100#32
  | 117 => 99#32
  | 118 => 98#32
  | 119 => 97#32
  | 120 => 89#32
  | 121 => 88#32
  | 122 => 87#32
  | 123 => 86#32
  | 124 => 85#32
  | 125 => 84#32
  | 126 => 83#32
  | 127 => 82#32
  | _ => 0#32

noncomputable abbrev lit0t0_24 (i : Nat) : BitVec 32 := match i % 128 with
  | 0 => 202#32
  | 1 => 201#32
  | 2 => 200#32
  | 3 => 199#32
  | 4 => 198#32
  | 5 => 197#32
  | 6 => 196#32
  | 7 => 195#32
  | 8 => 187#32
  | 9 => 186#32
  | 10 => 185#32
  | 11 => 184#32
  | 12 => 183#32
  | 13 => 182#32
  | 14 => 181#32
  | 15 => 180#32
  | 16 => 172#32
  | 17 => 171#32
  | 18 => 170#32
  | 19 => 169#32
  | 20 => 168#32
  | 21 => 167#32
  | 22 => 166#32
  | 23 => 165#32
  | 24 => 157#32
  | 25 => 156#32
  | 26 => 155#32
  | 27 => 154#32
  | 28 => 153#32
  | 29 => 152#32
  | 30 => 151#32
  | 31 => 150#32
  | 32 => 142#32
  | 33 => 141#32
  | 34 => 140#32
  | 35 => 139#32
  | 36 => 138#32
  | 37 => 137#32
  | 38 => 136#32
  | 39 => 135#32
  | 40 => 127#32
  | 41 => 126#32
  | 42 => 125#32
  | 43 => 124#32
  | 44 => 123#32
  | 45 => 122#32
  | 46 => 121#32
  | 47 => 120#32
  | 48 => 112#32
  | 49 => 111#32
  | 50 => 110#32
  | 51 => 109#32
  | 52 => 108#32
  | 53 => 107#32
  | 54 => 106#32
  | 55 => 105#32
  | 56 => 97#32
  | 57 => 96#32
  | 58 => 95#32
  | 59 => 94#32
  | 60 => 93#32
  | 61 => 92#32
  | 62 => 91#32
  | 63 => 90#32
  | 64 => 203#32
  | 65 => 202#32
  | 66 => 201#32
  | 67 => 200#32
  | 68 => 199#32
  | 69 => 198#32
  | 70 => 197#32
  | 71 => 196#32
  | 72 => 188#32
  | 73 => 187#32
  | 74 => 186#32
  | 75 => 185#32
  | 76 => 184#32
  | 77 => 183#32
  | 78 => 182#32
  | 79 => 181#32
  | 80 => 173#32
  | 81 => 172#32
  | 82 => 171#32
  | 83 => 170#32
  | 84 => 169#32
  | 85 => 168#32
  | 86 => 167#32
  | 87 => 166#32
  | 88 => 158#32
  | 89 => 157#32
  | 90 => 156#32
  | 91 => 155#32
  | 92 => 154#32
  | 93 => 153#32
  | 94 => 152#32
  | 95 => 151#32
  | 96 => 143#32
  | 97 => 142#32
  | 98 => 141#32
  | 99 => 140#32
  | 100 => 139#32
  | 101 => 138#32
  | 102 => 137#32
  | 103 => 136#32
  | 104 => 128#32
  | 105 => 127#32
  | 106 => 126#32
  | 107 => 125#32
  | 108 => 124#32
  | 109 => 123#32
  | 110 => 122#32
  | 111 => 121#32
  | 112 => 113#32
  | 113 => 112#32
  | 114 => 111#32
  | 115 => 110#32
  | 116 => 109#32
  | 117 => 108#32
  | 118 => 107#32
  | 119 => 106#32
  | 120 => 98#32
  | 121 => 97#32
  | 122 => 96#32
  | 123 => 95#32
  | 124 => 94#32
  | 125 => 93#32
  | 126 => 92#32
  | 127 => 91#32
  | _ => 0#32

noncomputable abbrev lit0t0_25 (i : Nat) : BitVec 32 := match i % 128 with
  | 0 => 204#32
  | 1 => 203#32
  | 2 => 202#32
  | 3 => 201#32
  | 4 => 200#32
  | 5 => 199#32
  | 6 => 198#32
  | 7 => 197#32
  | 8 => 189#32
  | 9 => 188#32
  | 10 => 187#32
  | 11 => 186#32
  | 12 => 185#32
  | 13 => 184#32
  | 14 => 183#32
  | 15 => 182#32
  | 16 => 174#32
  | 17 => 173#32
  | 18 => 172#32
  | 19 => 171#32
  | 20 => 170#32
  | 21 => 169#32
  | 22 => 168#32
  | 23 => 167#32
  | 24 => 159#32
  | 25 => 158#32
  | 26 => 157#32
  | 27 => 156#32
  | 28 => 155#32
  | 29 => 154#32
  | 30 => 153#32
  | 31 => 152#32
  | 32 => 144#32
  | 33 => 143#32
  | 34 => 142#32
  | 35 => 141#32
  | 36 => 140#32
  | 37 => 139#32
  | 38 => 138#32
  | 39 => 137#32
  | 40 => 129#32
  | 41 => 128#32
  | 42 => 127#32
  | 43 => 126#32
  | 44 => 125#32
  | 45 => 124#32
  | 46 => 123#32
  | 47 => 122#32
  | 48 => 114#32
  | 49 => 113#32
  | 50 => 112#32
  | 51 => 111#32
  | 52 => 110#32
  | 53 => 109#32
  | 54 => 108#32
  | 55 => 107#32
  | 56 => 99#32
  | 57 => 98#32
  | 58 => 97#32
  | 59 => 96#32
  | 60 => 95#32
  | 61 => 94#32
  | 62 => 93#32
  | 63 => 92#32
  | 64 => 205#32
  | 65 => 204#32
  | 66 => 203#32
  | 67 => 202#32
  | 68 => 201#32
  | 69 => 200#32
  | 70 => 199#32
  | 71 => 198#32
  | 72 => 190#32
  | 73 => 189#32
  | 74 => 188#32
  | 75 => 187#32
  | 76 => 186#32
  | 77 => 185#32
  | 78 => 184#32
  | 79 => 183#32
  | 80 => 175#32
  | 81 => 174#32
  | 82 => 173#32
  | 83 => 172#32
  | 84 => 171#32
  | 85 => 170#32
  | 86 => 169#32
  | 87 => 168#32
  | 88 => 160#32
  | 89 => 159#32
  | 90 => 158#32
  | 91 => 157#32
  | 92 => 156#32
  | 93 => 155#32
  | 94 => 154#32
  | 95 => 153#32
  | 96 => 145#32
  | 97 => 144#32
  | 98 => 143#32
  | 99 => 142#32
  | 100 => 141#32
  | 101 => 140#32
  | 102 => 139#32
  | 103 => 138#32
  | 104 => 130#32
  | 105 => 129#32
  | 106 => 128#32
  | 107 => 127#32
  | 108 => 126#32
  | 109 => 125#32
  | 110 => 124#32
  | 111 => 123#32
  | 112 => 115#32
  | 113 => 114#32
  | 114 => 113#32
  | 115 => 112#32
  | 116 => 111#32
  | 117 => 110#32
  | 118 => 109#32
  | 119 => 108#32
  | 120 => 100#32
  | 121 => 99#32
  | 122 => 98#32
  | 123 => 97#32
  | 124 => 96#32
  | 125 => 95#32
  | 126 => 94#32
  | 127 => 93#32
  | _ => 0#32

noncomputable abbrev lit0t0_26 (i : Nat) : BitVec 32 := match i % 128 with
  | 0 => 206#32
  | 1 => 205#32
  | 2 => 204#32
  | 3 => 203#32
  | 4 => 202#32
  | 5 => 201#32
  | 6 => 200#32
  | 7 => 199#32
  | 8 => 191#32
  | 9 => 190#32
  | 10 => 189#32
  | 11 => 188#32
  | 12 => 187#32
  | 13 => 186#32
  | 14 => 185#32
  | 15 => 184#32
  | 16 => 176#32
  | 17 => 175#32
  | 18 => 174#32
  | 19 => 173#32
  | 20 => 172#32
  | 21 => 171#32
  | 22 => 170#32
  | 23 => 169#32
  | 24 => 161#32
  | 25 => 160#32
  | 26 => 159#32
  | 27 => 158#32
  | 28 => 157#32
  | 29 => 156#32
  | 30 => 155#32
  | 31 => 154#32
  | 32 => 146#32
  | 33 => 145#32
  | 34 => 144#32
  | 35 => 143#32
  | 36 => 142#32
  | 37 => 141#32
  | 38 => 140#32
  | 39 => 139#32
  | 40 => 131#32
  | 41 => 130#32
  | 42 => 129#32
  | 43 => 128#32
  | 44 => 127#32
  | 45 => 126#32
  | 46 => 125#32
  | 47 => 124#32
  | 48 => 116#32
  | 49 => 115#32
  | 50 => 114#32
  | 51 => 113#32
  | 52 => 112#32
  | 53 => 111#32
  | 54 => 110#32
  | 55 => 109#32
  | 56 => 101#32
  | 57 => 100#32
  | 58 => 99#32
  | 59 => 98#32
  | 60 => 97#32
  | 61 => 96#32
  | 62 => 95#32
  | 63 => 94#32
  | 64 => 207#32
  | 65 => 206#32
  | 66 => 205#32
  | 67 => 204#32
  | 68 => 203#32
  | 69 => 202#32
  | 70 => 201#32
  | 71 => 200#32
  | 72 => 192#32
  | 73 => 191#32
  | 74 => 190#32
  | 75 => 189#32
  | 76 => 188#32
  | 77 => 187#32
  | 78 => 186#32
  | 79 => 185#32
  | 80 => 177#32
  | 81 => 176#32
  | 82 => 175#32
  | 83 => 174#32
  | 84 => 173#32
  | 85 => 172#32
  | 86 => 171#32
  | 87 => 170#32
  | 88 => 162#32
  | 89 => 161#32
  | 90 => 160#32
  | 91 => 159#32
  | 92 => 158#32
  | 93 => 157#32
  | 94 => 156#32
  | 95 => 155#32
  | 96 => 147#32
  | 97 => 146#32
  | 98 => 145#32
  | 99 => 144#32
  | 100 => 143#32
  | 101 => 142#32
  | 102 => 141#32
  | 103 => 140#32
  | 104 => 132#32
  | 105 => 131#32
  | 106 => 130#32
  | 107 => 129#32
  | 108 => 128#32
  | 109 => 127#32
  | 110 => 126#32
  | 111 => 125#32
  | 112 => 117#32
  | 113 => 116#32
  | 114 => 115#32
  | 115 => 114#32
  | 116 => 113#32
  | 117 => 112#32
  | 118 => 111#32
  | 119 => 110#32
  | 120 => 102#32
  | 121 => 101#32
  | 122 => 100#32
  | 123 => 99#32
  | 124 => 98#32
  | 125 => 97#32
  | 126 => 96#32
  | 127 => 95#32
  | _ => 0#32

noncomputable abbrev lit0t0_27 (i : Nat) : BitVec 32 := match i % 128 with
  | 0 => 208#32
  | 1 => 207#32
  | 2 => 206#32
  | 3 => 205#32
  | 4 => 204#32
  | 5 => 203#32
  | 6 => 202#32
  | 7 => 201#32
  | 8 => 193#32
  | 9 => 192#32
  | 10 => 191#32
  | 11 => 190#32
  | 12 => 189#32
  | 13 => 188#32
  | 14 => 187#32
  | 15 => 186#32
  | 16 => 178#32
  | 17 => 177#32
  | 18 => 176#32
  | 19 => 175#32
  | 20 => 174#32
  | 21 => 173#32
  | 22 => 172#32
  | 23 => 171#32
  | 24 => 163#32
  | 25 => 162#32
  | 26 => 161#32
  | 27 => 160#32
  | 28 => 159#32
  | 29 => 158#32
  | 30 => 157#32
  | 31 => 156#32
  | 32 => 148#32
  | 33 => 147#32
  | 34 => 146#32
  | 35 => 145#32
  | 36 => 144#32
  | 37 => 143#32
  | 38 => 142#32
  | 39 => 141#32
  | 40 => 133#32
  | 41 => 132#32
  | 42 => 131#32
  | 43 => 130#32
  | 44 => 129#32
  | 45 => 128#32
  | 46 => 127#32
  | 47 => 126#32
  | 48 => 118#32
  | 49 => 117#32
  | 50 => 116#32
  | 51 => 115#32
  | 52 => 114#32
  | 53 => 113#32
  | 54 => 112#32
  | 55 => 111#32
  | 56 => 103#32
  | 57 => 102#32
  | 58 => 101#32
  | 59 => 100#32
  | 60 => 99#32
  | 61 => 98#32
  | 62 => 97#32
  | 63 => 96#32
  | 64 => 209#32
  | 65 => 208#32
  | 66 => 207#32
  | 67 => 206#32
  | 68 => 205#32
  | 69 => 204#32
  | 70 => 203#32
  | 71 => 202#32
  | 72 => 194#32
  | 73 => 193#32
  | 74 => 192#32
  | 75 => 191#32
  | 76 => 190#32
  | 77 => 189#32
  | 78 => 188#32
  | 79 => 187#32
  | 80 => 179#32
  | 81 => 178#32
  | 82 => 177#32
  | 83 => 176#32
  | 84 => 175#32
  | 85 => 174#32
  | 86 => 173#32
  | 87 => 172#32
  | 88 => 164#32
  | 89 => 163#32
  | 90 => 162#32
  | 91 => 161#32
  | 92 => 160#32
  | 93 => 159#32
  | 94 => 158#32
  | 95 => 157#32
  | 96 => 149#32
  | 97 => 148#32
  | 98 => 147#32
  | 99 => 146#32
  | 100 => 145#32
  | 101 => 144#32
  | 102 => 143#32
  | 103 => 142#32
  | 104 => 134#32
  | 105 => 133#32
  | 106 => 132#32
  | 107 => 131#32
  | 108 => 130#32
  | 109 => 129#32
  | 110 => 128#32
  | 111 => 127#32
  | 112 => 119#32
  | 113 => 118#32
  | 114 => 117#32
  | 115 => 116#32
  | 116 => 115#32
  | 117 => 114#32
  | 118 => 113#32
  | 119 => 112#32
  | 120 => 104#32
  | 121 => 103#32
  | 122 => 102#32
  | 123 => 101#32
  | 124 => 100#32
  | 125 => 99#32
  | 126 => 98#32
  | 127 => 97#32
  | _ => 0#32

noncomputable abbrev lit0t0_28 (i : Nat) : BitVec 32 := match i % 128 with
  | 0 => 217#32
  | 1 => 216#32
  | 2 => 215#32
  | 3 => 214#32
  | 4 => 213#32
  | 5 => 212#32
  | 6 => 211#32
  | 7 => 210#32
  | 8 => 202#32
  | 9 => 201#32
  | 10 => 200#32
  | 11 => 199#32
  | 12 => 198#32
  | 13 => 197#32
  | 14 => 196#32
  | 15 => 195#32
  | 16 => 187#32
  | 17 => 186#32
  | 18 => 185#32
  | 19 => 184#32
  | 20 => 183#32
  | 21 => 182#32
  | 22 => 181#32
  | 23 => 180#32
  | 24 => 172#32
  | 25 => 171#32
  | 26 => 170#32
  | 27 => 169#32
  | 28 => 168#32
  | 29 => 167#32
  | 30 => 166#32
  | 31 => 165#32
  | 32 => 157#32
  | 33 => 156#32
  | 34 => 155#32
  | 35 => 154#32
  | 36 => 153#32
  | 37 => 152#32
  | 38 => 151#32
  | 39 => 150#32
  | 40 => 142#32
  | 41 => 141#32
  | 42 => 140#32
  | 43 => 139#32
  | 44 => 138#32
  | 45 => 137#32
  | 46 => 136#32
  | 47 => 135#32
  | 48 => 127#32
  | 49 => 126#32
  | 50 => 125#32
  | 51 => 124#32
  | 52 => 123#32
  | 53 => 122#32
  | 54 => 121#32
  | 55 => 120#32
  | 56 => 112#32
  | 57 => 111#32
  | 58 => 110#32
  | 59 => 109#32
  | 60 => 108#32
  | 61 => 107#32
  | 62 => 106#32
  | 63 => 105#32
  | 64 => 218#32
  | 65 => 217#32
  | 66 => 216#32
  | 67 => 215#32
  | 68 => 214#32
  | 69 => 213#32
  | 70 => 212#32
  | 71 => 211#32
  | 72 => 203#32
  | 73 => 202#32
  | 74 => 201#32
  | 75 => 200#32
  | 76 => 199#32
  | 77 => 198#32
  | 78 => 197#32
  | 79 => 196#32
  | 80 => 188#32
  | 81 => 187#32
  | 82 => 186#32
  | 83 => 185#32
  | 84 => 184#32
  | 85 => 183#32
  | 86 => 182#32
  | 87 => 181#32
  | 88 => 173#32
  | 89 => 172#32
  | 90 => 171#32
  | 91 => 170#32
  | 92 => 169#32
  | 93 => 168#32
  | 94 => 167#32
  | 95 => 166#32
  | 96 => 158#32
  | 97 => 157#32
  | 98 => 156#32
  | 99 => 155#32
  | 100 => 154#32
  | 101 => 153#32
  | 102 => 152#32
  | 103 => 151#32
  | 104 => 143#32
  | 105 => 142#32
  | 106 => 141#32
  | 107 => 140#32
  | 108 => 139#32
  | 109 => 138#32
  | 110 => 137#32
  | 111 => 136#32
  | 112 => 128#32
  | 113 => 127#32
  | 114 => 126#32
  | 115 => 125#32
  | 116 => 124#32
  | 117 => 123#32
  | 118 => 122#32
  | 119 => 121#32
  | 120 => 113#32
  | 121 => 112#32
  | 122 => 111#32
  | 123 => 110#32
  | 124 => 109#32
  | 125 => 108#32
  | 126 => 107#32
  | 127 => 106#32
  | _ => 0#32

noncomputable abbrev lit0t0_29 (i : Nat) : BitVec 32 := match i % 128 with
  | 0 => 219#32
  | 1 => 218#32
  | 2 => 217#32
  | 3 => 216#32
  | 4 => 215#32
  | 5 => 214#32
  | 6 => 213#32
  | 7 => 212#32
  | 8 => 204#32
  | 9 => 203#32
  | 10 => 202#32
  | 11 => 201#32
  | 12 => 200#32
  | 13 => 199#32
  | 14 => 198#32
  | 15 => 197#32
  | 16 => 189#32
  | 17 => 188#32
  | 18 => 187#32
  | 19 => 186#32
  | 20 => 185#32
  | 21 => 184#32
  | 22 => 183#32
  | 23 => 182#32
  | 24 => 174#32
  | 25 => 173#32
  | 26 => 172#32
  | 27 => 171#32
  | 28 => 170#32
  | 29 => 169#32
  | 30 => 168#32
  | 31 => 167#32
  | 32 => 159#32
  | 33 => 158#32
  | 34 => 157#32
  | 35 => 156#32
  | 36 => 155#32
  | 37 => 154#32
  | 38 => 153#32
  | 39 => 152#32
  | 40 => 144#32
  | 41 => 143#32
  | 42 => 142#32
  | 43 => 141#32
  | 44 => 140#32
  | 45 => 139#32
  | 46 => 138#32
  | 47 => 137#32
  | 48 => 129#32
  | 49 => 128#32
  | 50 => 127#32
  | 51 => 126#32
  | 52 => 125#32
  | 53 => 124#32
  | 54 => 123#32
  | 55 => 122#32
  | 56 => 114#32
  | 57 => 113#32
  | 58 => 112#32
  | 59 => 111#32
  | 60 => 110#32
  | 61 => 109#32
  | 62 => 108#32
  | 63 => 107#32
  | 64 => 220#32
  | 65 => 219#32
  | 66 => 218#32
  | 67 => 217#32
  | 68 => 216#32
  | 69 => 215#32
  | 70 => 214#32
  | 71 => 213#32
  | 72 => 205#32
  | 73 => 204#32
  | 74 => 203#32
  | 75 => 202#32
  | 76 => 201#32
  | 77 => 200#32
  | 78 => 199#32
  | 79 => 198#32
  | 80 => 190#32
  | 81 => 189#32
  | 82 => 188#32
  | 83 => 187#32
  | 84 => 186#32
  | 85 => 185#32
  | 86 => 184#32
  | 87 => 183#32
  | 88 => 175#32
  | 89 => 174#32
  | 90 => 173#32
  | 91 => 172#32
  | 92 => 171#32
  | 93 => 170#32
  | 94 => 169#32
  | 95 => 168#32
  | 96 => 160#32
  | 97 => 159#32
  | 98 => 158#32
  | 99 => 157#32
  | 100 => 156#32
  | 101 => 155#32
  | 102 => 154#32
  | 103 => 153#32
  | 104 => 145#32
  | 105 => 144#32
  | 106 => 143#32
  | 107 => 142#32
  | 108 => 141#32
  | 109 => 140#32
  | 110 => 139#32
  | 111 => 138#32
  | 112 => 130#32
  | 113 => 129#32
  | 114 => 128#32
  | 115 => 127#32
  | 116 => 126#32
  | 117 => 125#32
  | 118 => 124#32
  | 119 => 123#32
  | 120 => 115#32
  | 121 => 114#32
  | 122 => 113#32
  | 123 => 112#32
  | 124 => 111#32
  | 125 => 110#32
  | 126 => 109#32
  | 127 => 108#32
  | _ => 0#32

noncomputable abbrev lit0t0_30 (i : Nat) : BitVec 32 := match i % 128 with
  | 0 => 221#32
  | 1 => 220#32
  | 2 => 219#32
  | 3 => 218#32
  | 4 => 217#32
  | 5 => 216#32
  | 6 => 215#32
  | 7 => 214#32
  | 8 => 206#32
  | 9 => 205#32
  | 10 => 204#32
  | 11 => 203#32
  | 12 => 202#32
  | 13 => 201#32
  | 14 => 200#32
  | 15 => 199#32
  | 16 => 191#32
  | 17 => 190#32
  | 18 => 189#32
  | 19 => 188#32
  | 20 => 187#32
  | 21 => 186#32
  | 22 => 185#32
  | 23 => 184#32
  | 24 => 176#32
  | 25 => 175#32
  | 26 => 174#32
  | 27 => 173#32
  | 28 => 172#32
  | 29 => 171#32
  | 30 => 170#32
  | 31 => 169#32
  | 32 => 161#32
  | 33 => 160#32
  | 34 => 159#32
  | 35 => 158#32
  | 36 => 157#32
  | 37 => 156#32
  | 38 => 155#32
  | 39 => 154#32
  | 40 => 146#32
  | 41 => 145#32
  | 42 => 144#32
  | 43 => 143#32
  | 44 => 142#32
  | 45 => 141#32
  | 46 => 140#32
  | 47 => 139#32
  | 48 => 131#32
  | 49 => 130#32
  | 50 => 129#32
  | 51 => 128#32
  | 52 => 127#32
  | 53 => 126#32
  | 54 => 125#32
  | 55 => 124#32
  | 56 => 116#32
  | 57 => 115#32
  | 58 => 114#32
  | 59 => 113#32
  | 60 => 112#32
  | 61 => 111#32
  | 62 => 110#32
  | 63 => 109#32
  | 64 => 222#32
  | 65 => 221#32
  | 66 => 220#32
  | 67 => 219#32
  | 68 => 218#32
  | 69 => 217#32
  | 70 => 216#32
  | 71 => 215#32
  | 72 => 207#32
  | 73 => 206#32
  | 74 => 205#32
  | 75 => 204#32
  | 76 => 203#32
  | 77 => 202#32
  | 78 => 201#32
  | 79 => 200#32
  | 80 => 192#32
  | 81 => 191#32
  | 82 => 190#32
  | 83 => 189#32
  | 84 => 188#32
  | 85 => 187#32
  | 86 => 186#32
  | 87 => 185#32
  | 88 => 177#32
  | 89 => 176#32
  | 90 => 175#32
  | 91 => 174#32
  | 92 => 173#32
  | 93 => 172#32
  | 94 => 171#32
  | 95 => 170#32
  | 96 => 162#32
  | 97 => 161#32
  | 98 => 160#32
  | 99 => 159#32
  | 100 => 158#32
  | 101 => 157#32
  | 102 => 156#32
  | 103 => 155#32
  | 104 => 147#32
  | 105 => 146#32
  | 106 => 145#32
  | 107 => 144#32
  | 108 => 143#32
  | 109 => 142#32
  | 110 => 141#32
  | 111 => 140#32
  | 112 => 132#32
  | 113 => 131#32
  | 114 => 130#32
  | 115 => 129#32
  | 116 => 128#32
  | 117 => 127#32
  | 118 => 126#32
  | 119 => 125#32
  | 120 => 117#32
  | 121 => 116#32
  | 122 => 115#32
  | 123 => 114#32
  | 124 => 113#32
  | 125 => 112#32
  | 126 => 111#32
  | 127 => 110#32
  | _ => 0#32

noncomputable abbrev lit0t0_31 (i : Nat) : BitVec 32 := match i % 128 with
  | 0 => 223#32
  | 1 => 222#32
  | 2 => 221#32
  | 3 => 220#32
  | 4 => 219#32
  | 5 => 218#32
  | 6 => 217#32
  | 7 => 216#32
  | 8 => 208#32
  | 9 => 207#32
  | 10 => 206#32
  | 11 => 205#32
  | 12 => 204#32
  | 13 => 203#32
  | 14 => 202#32
  | 15 => 201#32
  | 16 => 193#32
  | 17 => 192#32
  | 18 => 191#32
  | 19 => 190#32
  | 20 => 189#32
  | 21 => 188#32
  | 22 => 187#32
  | 23 => 186#32
  | 24 => 178#32
  | 25 => 177#32
  | 26 => 176#32
  | 27 => 175#32
  | 28 => 174#32
  | 29 => 173#32
  | 30 => 172#32
  | 31 => 171#32
  | 32 => 163#32
  | 33 => 162#32
  | 34 => 161#32
  | 35 => 160#32
  | 36 => 159#32
  | 37 => 158#32
  | 38 => 157#32
  | 39 => 156#32
  | 40 => 148#32
  | 41 => 147#32
  | 42 => 146#32
  | 43 => 145#32
  | 44 => 144#32
  | 45 => 143#32
  | 46 => 142#32
  | 47 => 141#32
  | 48 => 133#32
  | 49 => 132#32
  | 50 => 131#32
  | 51 => 130#32
  | 52 => 129#32
  | 53 => 128#32
  | 54 => 127#32
  | 55 => 126#32
  | 56 => 118#32
  | 57 => 117#32
  | 58 => 116#32
  | 59 => 115#32
  | 60 => 114#32
  | 61 => 113#32
  | 62 => 112#32
  | 63 => 111#32
  | 64 => 224#32
  | 65 => 223#32
  | 66 => 222#32
  | 67 => 221#32
  | 68 => 220#32
  | 69 => 219#32
  | 70 => 218#32
  | 71 => 217#32
  | 72 => 209#32
  | 73 => 208#32
  | 74 => 207#32
  | 75 => 206#32
  | 76 => 205#32
  | 77 => 204#32
  | 78 => 203#32
  | 79 => 202#32
  | 80 => 194#32
  | 81 => 193#32
  | 82 => 192#32
  | 83 => 191#32
  | 84 => 190#32
  | 85 => 189#32
  | 86 => 188#32
  | 87 => 187#32
  | 88 => 179#32
  | 89 => 178#32
  | 90 => 177#32
  | 91 => 176#32
  | 92 => 175#32
  | 93 => 174#32
  | 94 => 173#32
  | 95 => 172#32
  | 96 => 164#32
  | 97 => 163#32
  | 98 => 162#32
  | 99 => 161#32
  | 100 => 160#32
  | 101 => 159#32
  | 102 => 158#32
  | 103 => 157#32
  | 104 => 149#32
  | 105 => 148#32
  | 106 => 147#32
  | 107 => 146#32
  | 108 => 145#32
  | 109 => 144#32
  | 110 => 143#32
  | 111 => 142#32
  | 112 => 134#32
  | 113 => 133#32
  | 114 => 132#32
  | 115 => 131#32
  | 116 => 130#32
  | 117 => 129#32
  | 118 => 128#32
  | 119 => 127#32
  | 120 => 119#32
  | 121 => 118#32
  | 122 => 117#32
  | 123 => 116#32
  | 124 => 115#32
  | 125 => 114#32
  | 126 => 113#32
  | 127 => 112#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | _ => 0#32

noncomputable abbrev lit0 : Fin 4096 → BitVec 32 := fun ⟨i, _⟩ => lit0t i

def fn_where {F : FTy → Type} [FloatOps F] (arg0 : IVec S_ 1) (arg1 : FVec F S8x1024x1 .f32) (arg2 : FVec F S_ .f32) : FVec F S8x1024x1 .f32 :=
  let v0 : FVec F S_ .f32 := id arg2
  let v1 : FVec F S8x1024x1 .f32 := broadcastInDim S8x1024x1 ![] bcast_S_S8x1024x1 v0
  let v2 : FVec F S8x1024x1 .f32 := (fun p a b => select (broadcastInDim S8x1024x1 ![] bcast_S_S8x1024x1 p) a b) arg0 arg1 v1
  v2

def fn_var {F : FTy → Type} [FloatOps F] (arg0 : FVec F S8x1024x768 .f32) (arg1 : IVec S_ 32) : FVec F S8x1024x1 .f32 :=
  let cst : FVec F S_ .f32 := constant S_ .f32 0x00000000#32
  let v0 : FVec F S8x1024 .f32 := (fun x v => Host.reduceAdd x v reducesTo_S8x1024x768_S8x1024_d2 h_S_) arg0 cst
  let v1 : FVec F S8x1024x1 .f32 := broadcastInDim S8x1024x1 ![0, 1] bcast_S8x1024_S8x1024x1_0_1 v0
  let cst_0 : FVec F S_ .f32 := constant S_ .f32 0x44400000#32
  let v2 : FVec F S8x1024x1 .f32 := broadcastInDim S8x1024x1 ![] bcast_S_S8x1024x1 cst_0
  let v3 : FVec F S8x1024x1 .f32 := Host.divf v1 v2
  let v4 : FVec F S8x1024x768 .f32 := broadcastInDim S8x1024x768 ![0, 1, 2] bcast_S8x1024x1_S8x1024x768_0_1_2 v3
  let v5 : FVec F S8x1024x768 .f32 := subf arg0 v4
  let v6 : FVec F S8x1024x768 .f32 := mulf v5 v5
  let v7 : FVec F S_ .f32 := sitofp .f32 arg1
  let cst_1 : FVec F S_ .f32 := constant S_ .f32 0x44400000#32
  let v8 : FVec F S_ .f32 := subf cst_1 v7
  let cst_2 : FVec F S_ .f32 := constant S_ .f32 0x00000000#32
  let v9 : FVec F S8x1024 .f32 := (fun x v => Host.reduceAdd x v reducesTo_S8x1024x768_S8x1024_d2 h_S_) v6 cst_2
  let v10 : FVec F S8x1024x1 .f32 := broadcastInDim S8x1024x1 ![0, 1] bcast_S8x1024_S8x1024x1_0_1 v9
  let v11 : FVec F S8x1024x1 .f32 := broadcastInDim S8x1024x1 ![] bcast_S_S8x1024x1 v8
  let v12 : FVec F S8x1024x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S8x1024x1 .f32 := fn_where (F := F) v13 v12 cst_4
  v14

def fn_part2 {F : FTy → Type} [FloatOps F] (main_arg7 : FVec F S225x12 .f32) (main_v37 : FVec F S128x12x64x64 .f32) (main_v38 : IVec S4096 32) (main_v40 : IVec S4096 1) : IVec S128x12x64x16 1 :=
  let main_c_5 : IVec S_ 32 := constantI S_ 32 225#32
  let main_v41 : IVec S4096 32 := broadcastInDim S4096 ![] bcast_S_S4096 main_c_5
  let main_v42 : IVec S4096 32 := addi main_v38 main_v41
  let main_v43 : IVec S4096 32 := select main_v40 main_v42 main_v38
  let main_v44 : IVec S4096x1 32 := broadcastInDim S4096x1 ![0] bcast_S4096_S4096x1_0 main_v43
  let main_v45 : FVec F S4096x12 .f32 := (fun x i => Host.gather gather_S225x12_S4096x1_S4096x12_1_0_n_n_0_1_112 x i) main_arg7 main_v44
  let main_v46 : FVec F S64x64x12 .f32 := shapeCast S64x64x12 main_v45 shapeCasts_S4096x12_S64x64x12
  let main_v47 : FVec F S12x64x64 .f32 := (transpose S12x64x64 [2, 0, 1] · transposes_S64x64x12_S12x64x64_2_0_1) main_v46
  let main_v48 : FVec F S1x12x64x64 .f32 := broadcastInDim S1x12x64x64 ![1, 2, 3] bcast_S12x64x64_S1x12x64x64_1_2_3 main_v47
  let main_v49 : FVec F S128x12x64x64 .f32 := broadcastInDim S128x12x64x64 ![0, 1, 2, 3] bcast_S1x12x64x64_S128x12x64x64_0_1_2_3 main_v48
  let main_v50 : FVec F S128x12x64x64 .f32 := addf main_v37 main_v49
  let main_values : FVec F S128x12x64x64 .f32 := (fun x => (Host.topK S128x12x64x64 3 (FloatOps.cmpfTotal .gt) x sliceFits_S128x12x64x64_S128x12x64x64).1) main_v50
  let main_indices : IVec S128x12x64x64 32 := (fun x => (Host.topK S128x12x64x64 3 (FloatOps.cmpfTotal .gt) x sliceFits_S128x12x64x64_S128x12x64x64).2) main_v50
  let main_v51 : FVec F S128x12x64x16 .f32 := (extractStridedSlice S128x12x64x16 ![0, 0, 0, 47] · slices_S128x12x64x64_S128x12x64x16_0_0_0_47) main_values
  let main_v52 : FVec F S128x12x64x16 .f32 := (extractStridedSlice S128x12x64x16 ![0, 0, 0, 48] · slices_S128x12x64x64_S128x12x64x16_0_0_0_48) main_values
  let main_v53 : FVec F S128x12x64x1 .f32 := (extractStridedSlice S128x12x64x1 ![0, 0, 0, 0] · slices_S128x12x64x64_S128x12x64x1_0_0_0_0) main_values
  let main_v54 : FVec F S128x12x64x16 .f32 := broadcastInDim S128x12x64x16 ![0, 1, 2, 3] bcast_S128x12x64x1_S128x12x64x16_0_1_2_3 main_v53
  let main_v55 : IVec S128x12x64x16 1 := cmpf .ogt main_v51 main_v52
  let main_cst_6 : FVec F S_ .f32 := constant S_ .f32 0x7F800000#32
  let main_v56 : FVec F S128x12x64x16 .f32 := broadcastInDim S128x12x64x16 ![] bcast_S_S128x12x64x16 main_cst_6
  let main_v57 : IVec S128x12x64x16 1 := cmpf .olt main_v54 main_v56
  let main_v58 : IVec S128x12x64x16 1 := andi main_v55 main_v57
  main_v58

def fn_part1 {F : FTy → Type} [FloatOps F] (main_arg3 : FVec F S768x2304 .f32) (main_arg4 : FVec F S2304 .f32) (main_arg7 : FVec F S225x12 .f32) (main_c : IVec S64x64 32) (main_v18 : FVec F S8x32x32x768 .f32) : IVec S128x12x64x16 1 :=
  let main_v19 : FVec F S8x4x8x4x8x768 .f32 := shapeCast S8x4x8x4x8x768 main_v18 shapeCasts_S8x32x32x768_S8x4x8x4x8x768
  let main_v20 : FVec F S8x4x4x8x8x768 .f32 := (transpose S8x4x4x8x8x768 [0, 1, 3, 2, 4, 5] · transposes_S8x4x8x4x8x768_S8x4x4x8x8x768_0_1_3_2_4_5) main_v19
  let main_v21 : FVec F S128x64x768 .f32 := shapeCast S128x64x768 main_v20 shapeCasts_S8x4x4x8x8x768_S128x64x768
  let main_v22 : FVec F S128x64x2304 .f32 := (fun l r => Host.dotGeneral dot_S128x64x768_S768x2304_S128x64x2304_2_0_01_1_n_n none l r) main_v21 main_arg3
  let main_v23 : FVec F S1x1x2304 .f32 := broadcastInDim S1x1x2304 ![2] bcast_S2304_S1x1x2304_2 main_arg4
  let main_v24 : FVec F S128x64x2304 .f32 := broadcastInDim S128x64x2304 ![0, 1, 2] bcast_S1x1x2304_S128x64x2304_0_1_2 main_v23
  let main_v25 : FVec F S128x64x2304 .f32 := addf main_v22 main_v24
  let main_v26 : FVec F S128x64x3x12x64 .f32 := shapeCast S128x64x3x12x64 main_v25 shapeCasts_S128x64x2304_S128x64x3x12x64
  let main_v27 : FVec F S3x128x12x64x64 .f32 := (transpose S3x128x12x64x64 [2, 0, 3, 1, 4] · transposes_S128x64x3x12x64_S3x128x12x64x64_2_0_3_1_4) main_v26
  let main_v28 : FVec F S1x128x12x64x64 .f32 := (extractStridedSlice S1x128x12x64x64 ![0, 0, 0, 0, 0] · slices_S3x128x12x64x64_S1x128x12x64x64_0_0_0_0_0) main_v27
  let main_v29 : FVec F S128x12x64x64 .f32 := shapeCast S128x12x64x64 main_v28 shapeCasts_S1x128x12x64x64_S128x12x64x64
  let main_cst_3 : FVec F S_ .f32 := constant S_ .f32 0x3E000000#32
  let main_v30 : FVec F S128x12x64x64 .f32 := broadcastInDim S128x12x64x64 ![] bcast_S_S128x12x64x64 main_cst_3
  let main_v31 : FVec F S128x12x64x64 .f32 := mulf main_v29 main_v30
  let main_v32 : FVec F S1x128x12x64x64 .f32 := (extractStridedSlice S1x128x12x64x64 ![1, 0, 0, 0, 0] · slices_S3x128x12x64x64_S1x128x12x64x64_1_0_0_0_0) main_v27
  let main_v33 : FVec F S128x12x64x64 .f32 := shapeCast S128x12x64x64 main_v32 shapeCasts_S1x128x12x64x64_S128x12x64x64
  let main_v34 : FVec F S1x128x12x64x64 .f32 := (extractStridedSlice S1x128x12x64x64 ![2, 0, 0, 0, 0] · slices_S3x128x12x64x64_S1x128x12x64x64_2_0_0_0_0) main_v27
  let main_v35 : FVec F S128x12x64x64 .f32 := shapeCast S128x12x64x64 main_v34 shapeCasts_S1x128x12x64x64_S128x12x64x64
  let main_v36 : FVec F S128x12x64x64 .f32 := (transpose S128x12x64x64 [0, 1, 3, 2] · transposes_S128x12x64x64_S128x12x64x64_0_1_3_2) main_v33
  let main_v37 : FVec F S128x12x64x64 .f32 := (fun l r => Host.dotGeneral dot_S128x12x64x64_S128x12x64x64_S128x12x64x64_3_2_2_3_01_01 none l r) main_v31 main_v36
  let main_v38 : IVec S4096 32 := shapeCast S4096 main_c shapeCasts_S64x64_S4096
  let main_c_4 : IVec S_ 32 := constantI S_ 32 0#32
  let main_v39 : IVec S4096 32 := broadcastInDim S4096 ![] bcast_S_S4096 main_c_4
  let main_v40 : IVec S4096 1 := cmpi .slt main_v38 main_v39
  fn_part2 (F := F) main_arg7 main_v37 main_v38 main_v40

def fn {F : FTy → Type} [FloatOps F] (main_arg0 : FVec F S8x1024x768 .f32) (main_arg1 : FVec F S768 .f32) (main_arg2 : FVec F S768 .f32) (main_arg3 : FVec F S768x2304 .f32) (main_arg4 : FVec F S2304 .f32) (main_arg5 : FVec F S768x768 .f32) (main_arg6 : FVec F S768 .f32) (main_arg7 : FVec F S225x12 .f32) (main_arg8 : FVec F S768 .f32) (main_arg9 : FVec F S768 .f32) (main_arg10 : FVec F S768x3072 .f32) (main_arg11 : FVec F S3072 .f32) (main_arg12 : FVec F S3072x768 .f32) (main_arg13 : FVec F S768 .f32) : IVec S128x12x64x16 1 :=
  let main_c : IVec S64x64 32 := fun i => lit0 (S64x64.rowMajor i)
  let main_cst : FVec F S_ .f32 := constant S_ .f32 0x00000000#32
  let main_v0 : FVec F S8x1024 .f32 := (fun x v => Host.reduceAdd x v reducesTo_S8x1024x768_S8x1024_d2 h_S_) main_arg0 main_cst
  let main_v1 : FVec F S8x1024x1 .f32 := broadcastInDim S8x1024x1 ![0, 1] bcast_S8x1024_S8x1024x1_0_1 main_v0
  let main_cst_0 : FVec F S_ .f32 := constant S_ .f32 0x44400000#32
  let main_v2 : FVec F S8x1024x1 .f32 := broadcastInDim S8x1024x1 ![] bcast_S_S8x1024x1 main_cst_0
  let main_v3 : FVec F S8x1024x1 .f32 := Host.divf main_v1 main_v2
  let main_c_1 : IVec S_ 32 := constantI S_ 32 0#32
  let main_v4 : FVec F S8x1024x1 .f32 := fn_var (F := F) main_arg0 main_c_1
  let main_v5 : FVec F S8x1024x768 .f32 := broadcastInDim S8x1024x768 ![0, 1, 2] bcast_S8x1024x1_S8x1024x768_0_1_2 main_v3
  let main_v6 : FVec F S8x1024x768 .f32 := subf main_arg0 main_v5
  let main_cst_2 : FVec F S_ .f32 := constant S_ .f32 0x3727C5AC#32
  let main_v7 : FVec F S8x1024x1 .f32 := broadcastInDim S8x1024x1 ![] bcast_S_S8x1024x1 main_cst_2
  let main_v8 : FVec F S8x1024x1 .f32 := addf main_v4 main_v7
  let main_v9 : FVec F S8x1024x1 .f32 := Host.sqrt main_v8
  let main_v10 : FVec F S8x1024x768 .f32 := broadcastInDim S8x1024x768 ![0, 1, 2] bcast_S8x1024x1_S8x1024x768_0_1_2 main_v9
  let main_v11 : FVec F S8x1024x768 .f32 := Host.divf main_v6 main_v10
  let main_v12 : FVec F S1x1x768 .f32 := broadcastInDim S1x1x768 ![2] bcast_S768_S1x1x768_2 main_arg1
  let main_v13 : FVec F S8x1024x768 .f32 := broadcastInDim S8x1024x768 ![0, 1, 2] bcast_S1x1x768_S8x1024x768_0_1_2 main_v12
  let main_v14 : FVec F S8x1024x768 .f32 := mulf main_v11 main_v13
  let main_v15 : FVec F S1x1x768 .f32 := broadcastInDim S1x1x768 ![2] bcast_S768_S1x1x768_2 main_arg2
  let main_v16 : FVec F S8x1024x768 .f32 := broadcastInDim S8x1024x768 ![0, 1, 2] bcast_S1x1x768_S8x1024x768_0_1_2 main_v15
  let main_v17 : FVec F S8x1024x768 .f32 := addf main_v14 main_v16
  let main_v18 : FVec F S8x32x32x768 .f32 := shapeCast S8x32x32x768 main_v17 shapeCasts_S8x1024x768_S8x32x32x768
  fn_part1 (F := F) main_arg3 main_arg4 main_arg7 main_c main_v18
-- ==== Kernel.lean ====
abbrev S8x1024x768 : Shape := ⟨3, ![8, 1024, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S225x12 : Shape := ⟨2, ![225, 12]⟩
abbrev S768x3072 : Shape := ⟨2, ![768, 3072]⟩
abbrev S3072 : Shape := ⟨1, ![3072]⟩
abbrev S3072x768 : Shape := ⟨2, ![3072, 768]⟩
abbrev S4096 : Shape := ⟨1, ![4096]⟩
abbrev S8192x768 : Shape := ⟨2, ![8192, 768]⟩
abbrev S_ : Shape := ⟨0, ![]⟩
abbrev S4096x1 : Shape := ⟨2, ![4096, 1]⟩
abbrev S4096x12 : Shape := ⟨2, ![4096, 12]⟩
abbrev S64x64x12 : Shape := ⟨3, ![64, 64, 12]⟩
abbrev S64x12x64 : Shape := ⟨3, ![64, 12, 64]⟩
abbrev S64x768 : Shape := ⟨2, ![64, 768]⟩
abbrev S1x768 : Shape := ⟨2, ![1, 768]⟩
abbrev S1x2304 : Shape := ⟨2, ![1, 2304]⟩
abbrev S1x3072 : Shape := ⟨2, ![1, 3072]⟩
abbrev S512x768 : Shape := ⟨2, ![512, 768]⟩
abbrev S2x8x4x8x768 : Shape := ⟨5, ![2, 8, 4, 8, 768]⟩
abbrev S2x4x8x8x768 : Shape := ⟨5, ![2, 4, 8, 8, 768]⟩
abbrev S512 : Shape := ⟨1, ![512]⟩
abbrev S512x1 : Shape := ⟨2, ![512, 1]⟩
abbrev S512x2304 : Shape := ⟨2, ![512, 2304]⟩
abbrev S64x64 : Shape := ⟨2, ![64, 64]⟩
abbrev S768x384 : Shape := ⟨2, ![768, 384]⟩
abbrev S512x384 : Shape := ⟨2, ![512, 384]⟩
abbrev S1x384 : Shape := ⟨2, ![1, 384]⟩
abbrev S64x128 : Shape := ⟨2, ![64, 128]⟩
abbrev S128 : Shape := ⟨1, ![128]⟩
abbrev S1x128 : Shape := ⟨2, ![1, 128]⟩
abbrev S512x3072 : Shape := ⟨2, ![512, 3072]⟩

abbrev nBuf : Space → Nat
  | .hbm => 41
  | .vmem => 18
  | .smem => 0
  | _ => 0

abbrev bufTy : (tb : Table) → Fin (tcTables nBuf tb) → BufTy
  | .hbm, ⟨0, _⟩ => ⟨S8x1024x768, .f32⟩
  | .hbm, ⟨1, _⟩ => ⟨S768, .f32⟩
  | .hbm, ⟨2, _⟩ => ⟨S768, .f32⟩
  | .hbm, ⟨3, _⟩ => ⟨S768x2304, .f32⟩
  | .hbm, ⟨4, _⟩ => ⟨S2304, .f32⟩
  | .hbm, ⟨5, _⟩ => ⟨S768x768, .f32⟩
  | .hbm, ⟨6, _⟩ => ⟨S768, .f32⟩
  | .hbm, ⟨7, _⟩ => ⟨S225x12, .f32⟩
  | .hbm, ⟨8, _⟩ => ⟨S768, .f32⟩
  | .hbm, ⟨9, _⟩ => ⟨S768, .f32⟩
  | .hbm, ⟨10, _⟩ => ⟨S768x3072, .f32⟩
  | .hbm, ⟨11, _⟩ => ⟨S3072, .f32⟩
  | .hbm, ⟨12, _⟩ => ⟨S3072x768, .f32⟩
  | .hbm, ⟨13, _⟩ => ⟨S768, .f32⟩
  | .hbm, ⟨14, _⟩ => ⟨S4096, .i32⟩
  | .hbm, ⟨15, _⟩ => ⟨S8192x768, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x12, .f32⟩
  | .hbm, ⟨25, _⟩ => ⟨S64x64x12, .f32⟩
  | .hbm, ⟨26, _⟩ => ⟨S64x12x64, .f32⟩
  | .hbm, ⟨27, _⟩ => ⟨S64x768, .f32⟩
  | .hbm, ⟨28, _⟩ => ⟨S1x768, .f32⟩
  | .hbm, ⟨29, _⟩ => ⟨S1x768, .f32⟩
  | .hbm, ⟨30, _⟩ => ⟨S768x2304, .bf16⟩
  | .hbm, ⟨31, _⟩ => ⟨S1x2304, .f32⟩
  | .hbm, ⟨32, _⟩ => ⟨S768x768, .bf16⟩
  | .hbm, ⟨33, _⟩ => ⟨S1x768, .f32⟩
  | .hbm, ⟨34, _⟩ => ⟨S1x768, .f32⟩
  | .hbm, ⟨35, _⟩ => ⟨S1x768, .f32⟩
  | .hbm, ⟨36, _⟩ => ⟨S768x3072, .bf16⟩
  | .hbm, ⟨37, _⟩ => ⟨S1x3072, .f32⟩
  | .hbm, ⟨38, _⟩ => ⟨S3072x768, .bf16⟩
  | .hbm, ⟨39, _⟩ => ⟨S1x768, .f32⟩
  | .hbm, ⟨40, _⟩ => ⟨S8192x768, .f32⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S1x768, .f32⟩
  | .local _ .vmem, ⟨4, _⟩ => ⟨S768x2304, .bf16⟩
  | .local _ .vmem, ⟨5, _⟩ => ⟨S1x2304, .f32⟩
  | .local _ .vmem, ⟨6, _⟩ => ⟨S768x768, .bf16⟩
  | .local _ .vmem, ⟨7, _⟩ => ⟨S1x768, .f32⟩
  | .local _ .vmem, ⟨8, _⟩ => ⟨S64x768, .f32⟩
  | .local _ .vmem, ⟨9, _⟩ => ⟨S1x768, .f32⟩
  | .local _ .vmem, ⟨10, _⟩ => ⟨S1x768, .f32⟩
  | .local _ .vmem, ⟨11, _⟩ => ⟨S768x3072, .bf16⟩
  | .local _ .vmem, ⟨12, _⟩ => ⟨S1x3072, .f32⟩
  | .local _ .vmem, ⟨13, _⟩ => ⟨S3072x768, .bf16⟩
  | .local _ .vmem, ⟨14, _⟩ => ⟨S1x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_c_0 : Ref sig .tc := ⟨.hbm, 16, rfl⟩
abbrev main_call0_v1 : Ref sig .tc := ⟨.hbm, 17, rfl⟩
abbrev main_call0_v2 : Ref sig .tc := ⟨.hbm, 18, rfl⟩
abbrev main_call0_c_1 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x1024x768 : Shape := ⟨3, ![8, 1024, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S225x12 : Shape := ⟨2, ![225, 12]⟩
abbrev S768x3072 : Shape := ⟨2, ![768, 3072]⟩
abbrev S3072 : Shape := ⟨1, ![3072]⟩
abbrev S3072x768 : Shape := ⟨2, ![3072, 768]⟩
abbrev S64x64 : Shape := ⟨2, ![64, 64]⟩
abbrev S_ : Shape := ⟨0, ![]⟩
abbrev S8x1024 : Shape := ⟨2, ![8, 1024]⟩
abbrev S8x1024x1 : Shape := ⟨3, ![8, 1024, 1]⟩
abbrev S1x1x768 : Shape := ⟨3, ![1, 1, 768]⟩
abbrev S8x32x32x768 : Shape := ⟨4, ![8, 32, 32, 768]⟩
abbrev S8x4x8x4x8x768 : Shape := ⟨6, ![8, 4, 8, 4, 8, 768]⟩
abbrev S8x4x4x8x8x768 : Shape := ⟨6, ![8, 4, 4, 8, 8, 768]⟩
abbrev S128x64x768 : Shape := ⟨3, ![128, 64, 768]⟩
abbrev S128x64x2304 : Shape := ⟨3, ![128, 64, 2304]⟩
abbrev S1x1x2304 : Shape := ⟨3, ![1, 1, 2304]⟩
abbrev S128x64x3x12x64 : Shape := ⟨5, ![128, 64, 3, 12, 64]⟩
abbrev S3x128x12x64x64 : Shape := ⟨5, ![3, 128, 12, 64, 64]⟩
abbrev S1x128x12x64x64 : Shape := ⟨5, ![1, 128, 12, 64, 64]⟩
abbrev S128x12x64x64 : Shape := ⟨4, ![128, 12, 64, 64]⟩
abbrev S4096 : Shape := ⟨1, ![4096]⟩
abbrev S4096x1 : Shape := ⟨2, ![4096, 1]⟩
abbrev S4096x12 : Shape := ⟨2, ![4096, 12]⟩
abbrev S64x64x12 : Shape := ⟨3, ![64, 64, 12]⟩
abbrev S12x64x64 : Shape := ⟨3, ![12, 64, 64]⟩
abbrev S1x12x64x64 : Shape := ⟨4, ![1, 12, 64, 64]⟩
abbrev S128x12x64x48 : Shape := ⟨4, ![128, 12, 64, 48]⟩
abbrev S128x12x64 : Shape := ⟨3, ![128, 12, 64]⟩
abbrev S128x12x64x1 : Shape := ⟨4, ![128, 12, 64, 1]⟩
abbrev S128x12x64x48x1 : Shape := ⟨5, ![128, 12, 64, 48, 1]⟩
abbrev S1x1x1x1x64 : Shape := ⟨5, ![1, 1, 1, 1, 64]⟩
abbrev S128x12x64x48x64 : Shape := ⟨5, ![128, 12, 64, 48, 64]⟩
abbrev S128x64x12x64 : Shape := ⟨4, ![128, 64, 12, 64]⟩
abbrev S8x1024x3072 : Shape := ⟨3, ![8, 1024, 3072]⟩
abbrev S1x1x3072 : Shape := ⟨3, ![1, 1, 3072]⟩
abbrev S8192x768 : Shape := ⟨2, ![8192, 768]⟩

abbrev nBuf : Space → Nat
  | .hbm => 196
  | .vmem => 0
  | .smem => 0
  | _ => 0

abbrev hbmTy0_0 (i : Nat) : BufTy := match i % 128 with
  | 0 => ⟨S8x1024x768, .f32⟩
  | 1 => ⟨S768, .f32⟩
  | 2 => ⟨S768, .f32⟩
  | 3 => ⟨S768x2304, .f32⟩
  | 4 => ⟨S2304, .f32⟩
  | 5 => ⟨S768x768, .f32⟩
  | 6 => ⟨S768, .f32⟩
  | 7 => ⟨S225x12, .f32⟩
  | 8 => ⟨S768, .f32⟩
  | 9 => ⟨S768, .f32⟩
  | 10 => ⟨S768x3072, .f32⟩
  | 11 => ⟨S3072, .f32⟩
  | 12 => ⟨S3072x768, .f32⟩
  | 13 => ⟨S768, .f32⟩
  | 14 => ⟨S64x64, .i32⟩
  | 15 => ⟨S_, .f32⟩
  | 16 => ⟨S8x1024, .f32⟩
  | 17 => ⟨S8x1024x1, .f32⟩
  | 18 => ⟨S_, .f32⟩
  | 19 => ⟨S8x1024x1, .f32⟩
  | 20 => ⟨S8x1024x1, .f32⟩
  | 21 => ⟨S_, .i32⟩
  | 22 => ⟨S_, .f32⟩
  | 23 => ⟨S8x1024, .f32⟩
  | 24 => ⟨S8x1024x1, .f32⟩
  | 25 => ⟨S_, .f32⟩
  | 26 => ⟨S8x1024x1, .f32⟩
  | 27 => ⟨S8x1024x1, .f32⟩
  | 28 => ⟨S8x1024x768, .f32⟩
  | 29 => ⟨S8x1024x768, .f32⟩
  | 30 => ⟨S8x1024x768, .f32⟩
  | 31 => ⟨S_, .f32⟩
  | 32 => ⟨S_, .f32⟩
  | 33 => ⟨S_, .f32⟩
  | 34 => ⟨S_, .f32⟩
  | 35 => ⟨S8x1024, .f32⟩
  | 36 => ⟨S8x1024x1, .f32⟩
  | 37 => ⟨S8x1024x1, .f32⟩
  | 38 => ⟨S8x1024x1, .f32⟩
  | 39 => ⟨S_, .f32⟩
  | 40 => ⟨S_, .i1⟩
  | 41 => ⟨S_, .f32⟩
  | 42 => ⟨S_, .f32⟩
  | 43 => ⟨S8x1024x1, .f32⟩
  | 44 => ⟨S8x1024x1, .f32⟩
  | 45 => ⟨S8x1024x768, .f32⟩
  | 46 => ⟨S8x1024x768, .f32⟩
  | 47 => ⟨S_, .f32⟩
  | 48 => ⟨S8x1024x1, .f32⟩
  | 49 => ⟨S8x1024x1, .f32⟩
  | 50 => ⟨S8x1024x1, .f32⟩
  | 51 => ⟨S8x1024x768, .f32⟩
  | 52 => ⟨S8x1024x768, .f32⟩
  | 53 => ⟨S1x1x768, .f32⟩
  | 54 => ⟨S8x1024x768, .f32⟩
  | 55 => ⟨S8x1024x768, .f32⟩
  | 56 => ⟨S1x1x768, .f32⟩
  | 57 => ⟨S8x1024x768, .f32⟩
  | 58 => ⟨S8x1024x768, .f32⟩
  | 59 => ⟨S8x32x32x768, .f32⟩
  | 60 => ⟨S8x4x8x4x8x768, .f32⟩
  | 61 => ⟨S8x4x4x8x8x768, .f32⟩
  | 62 => ⟨S128x64x768, .f32⟩
  | 63 => ⟨S128x64x2304, .f32⟩
  | 64 => ⟨S1x1x2304, .f32⟩
  | 65 => ⟨S128x64x2304, .f32⟩
  | 66 => ⟨S128x64x2304, .f32⟩
  | 67 => ⟨S128x64x3x12x64, .f32⟩
  | 68 => ⟨S3x128x12x64x64, .f32⟩
  | 69 => ⟨S1x128x12x64x64, .f32⟩
  | 70 => ⟨S128x12x64x64, .f32⟩
  | 71 => ⟨S_, .f32⟩
  | 72 => ⟨S128x12x64x64, .f32⟩
  | 73 => ⟨S128x12x64x64, .f32⟩
  | 74 => ⟨S1x128x12x64x64, .f32⟩
  | 75 => ⟨S128x12x64x64, .f32⟩
  | 76 => ⟨S1x128x12x64x64, .f32⟩
  | 77 => ⟨S128x12x64x64, .f32⟩
  | 78 => ⟨S128x12x64x64, .f32⟩
  | 79 => ⟨S128x12x64x64, .f32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x12, .f32⟩
  | 90 => ⟨S64x64x12, .f32⟩
  | 91 => ⟨S12x64x64, .f32⟩
  | 92 => ⟨S1x12x64x64, .f32⟩
  | 93 => ⟨S128x12x64x64, .f32⟩
  | 94 => ⟨S128x12x64x64, .f32⟩
  | 95 => ⟨S128x12x64x48, .f32⟩
  | 96 => ⟨S128x12x64x48, .i32⟩
  | 97 => ⟨S_, .f32⟩
  | 98 => ⟨S128x12x64, .f32⟩
  | 99 => ⟨S_, .f32⟩
  | 100 => ⟨S128x12x64, .f32⟩
  | 101 => ⟨S128x12x64, .f32⟩
  | 102 => ⟨S128x12x64x1, .f32⟩
  | 103 => ⟨S128x12x64x48, .f32⟩
  | 104 => ⟨S128x12x64x48, .f32⟩
  | 105 => ⟨S128x12x64x48, .f32⟩
  | 106 => ⟨S_, .f32⟩
  | 107 => ⟨S128x12x64, .f32⟩
  | 108 => ⟨S128x12x64x1, .f32⟩
  | 109 => ⟨S128x12x64x48, .f32⟩
  | 110 => ⟨S128x12x64x48, .f32⟩
  | 111 => ⟨S128x12x64x48x1, .i32⟩
  | 112 => ⟨S1x1x1x1x64, .i32⟩
  | 113 => ⟨S128x12x64x48x64, .i32⟩
  | 114 => ⟨S128x12x64x48x64, .i32⟩
  | 115 => ⟨S128x12x64x48x64, .i1⟩
  | 116 => ⟨S128x12x64x48x64, .f32⟩
  | 117 => ⟨S128x12x64x48x1, .f32⟩
  | 118 => ⟨S128x12x64x48x64, .f32⟩
  | 119 => ⟨S128x12x64x48x64, .f32⟩
  | 120 => ⟨S_, .f32⟩
  | 121 => ⟨S128x12x64x64, .f32⟩
  | 122 => ⟨S128x12x64x64, .f32⟩
  | 123 => ⟨S128x64x12x64, .f32⟩
  | 124 => ⟨S128x64x768, .f32⟩
  | 125 => ⟨S128x64x768, .f32⟩
  | 126 => ⟨S1x1x768, .f32⟩
  | 127 => ⟨S128x64x768, .f32⟩
  | _ => ⟨S8x1024x768, .f32⟩

abbrev hbmTy0_1 (i : Nat) : BufTy := match i % 128 with
  | 0 => ⟨S128x64x768, .f32⟩
  | 1 => ⟨S8x4x4x8x8x768, .f32⟩
  | 2 => ⟨S8x4x8x4x8x768, .f32⟩
  | 3 => ⟨S8x1024x768, .f32⟩
  | 4 => ⟨S8x1024x768, .f32⟩
  | 5 => ⟨S_, .f32⟩
  | 6 => ⟨S8x1024, .f32⟩
  | 7 => ⟨S8x1024x1, .f32⟩
  | 8 => ⟨S_, .f32⟩
  | 9 => ⟨S8x1024x1, .f32⟩
  | 10 => ⟨S8x1024x1, .f32⟩
  | 11 => ⟨S_, .i32⟩
  | 12 => ⟨S_, .f32⟩
  | 13 => ⟨S8x1024, .f32⟩
  | 14 => ⟨S8x1024x1, .f32⟩
  | 15 => ⟨S_, .f32⟩
  | 16 => ⟨S8x1024x1, .f32⟩
  | 17 => ⟨S8x1024x1, .f32⟩
  | 18 => ⟨S8x1024x768, .f32⟩
  | 19 => ⟨S8x1024x768, .f32⟩
  | 20 => ⟨S8x1024x768, .f32⟩
  | 21 => ⟨S_, .f32⟩
  | 22 => ⟨S_, .f32⟩
  | 23 => ⟨S_, .f32⟩
  | 24 => ⟨S_, .f32⟩
  | 25 => ⟨S8x1024, .f32⟩
  | 26 => ⟨S8x1024x1, .f32⟩
  | 27 => ⟨S8x1024x1, .f32⟩
  | 28 => ⟨S8x1024x1, .f32⟩
  | 29 => ⟨S_, .f32⟩
  | 30 => ⟨S_, .i1⟩
  | 31 => ⟨S_, .f32⟩
  | 32 => ⟨S_, .f32⟩
  | 33 => ⟨S8x1024x1, .f32⟩
  | 34 => ⟨S8x1024x1, .f32⟩
  | 35 => ⟨S8x1024x768, .f32⟩
  | 36 => ⟨S8x1024x768, .f32⟩
  | 37 => ⟨S_, .f32⟩
  | 38 => ⟨S8x1024x1, .f32⟩
  | 39 => ⟨S8x1024x1, .f32⟩
  | 40 => ⟨S8x1024x1, .f32⟩
  | 41 => ⟨S8x1024x768, .f32⟩
  | 42 => ⟨S8x1024x768, .f32⟩
  | 43 => ⟨S1x1x768, .f32⟩
  | 44 => ⟨S8x1024x768, .f32⟩
  | 45 => ⟨S8x1024x768, .f32⟩
  | 46 => ⟨S1x1x768, .f32⟩
  | 47 => ⟨S8x1024x768, .f32⟩
  | 48 => ⟨S8x1024x768, .f32⟩
  | 49 => ⟨S8x1024x3072, .f32⟩
  | 50 => ⟨S1x1x3072, .f32⟩
  | 51 => ⟨S8x1024x3072, .f32⟩
  | 52 => ⟨S8x1024x3072, .f32⟩
  | 53 => ⟨S_, .f32⟩
  | 54 => ⟨S8x1024x3072, .f32⟩
  | 55 => ⟨S8x1024x3072, .f32⟩
  | 56 => ⟨S8x1024x3072, .f32⟩
  | 57 => ⟨S_, .f32⟩
  | 58 => ⟨S8x1024x3072, .f32⟩
  | 59 => ⟨S8x1024x3072, .f32⟩
  | 60 => ⟨S8x1024x3072, .f32⟩
  | 61 => ⟨S8x1024x3072, .f32⟩
  | 62 => ⟨S8x1024x768, .f32⟩
  | 63 => ⟨S1x1x768, .f32⟩
  | 64 => ⟨S8x1024x768, .f32⟩
  | 65 => ⟨S8x1024x768, .f32⟩
  | 66 => ⟨S8x1024x768, .f32⟩
  | 67 => ⟨S8192x768, .f32⟩
  | _ => ⟨S8x1024x768, .f32⟩

abbrev hbmTy (i : Nat) : BufTy := match i / 128 with
  | 0 => hbmTy0_0 i
  | 1 => hbmTy0_1 i
  | _ => ⟨S8x1024x768, .f32⟩

abbrev bufTy : (tb : Table) → Fin (tcTables nBuf tb) → BufTy
  | .hbm, ⟨i, _⟩ => hbmTy i
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_2 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_3 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_4 : Ref sig .tc := ⟨.hbm, 81, rfl⟩
abbrev main_v39 : Ref sig .tc := ⟨.hbm, 82, rfl⟩
abbrev main_v40 : Ref sig .tc := ⟨.hbm, 83, rfl⟩
abbrev main_c_5 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_values : Ref sig .tc := ⟨.hbm, 95, rfl⟩
abbrev main_indices : Ref sig .tc := ⟨.hbm, 96, rfl⟩
abbrev main_cst_6 : Ref sig .tc := ⟨.hbm, 97, rfl⟩
abbrev main_v51 : Ref sig .tc := ⟨.hbm, 98, rfl⟩
abbrev main_cst_7 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_8 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_9 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_10 : Ref sig .tc := ⟨.hbm, 133, rfl⟩
abbrev main_v78 : Ref sig .tc := ⟨.hbm, 134, rfl⟩
abbrev main_v79 : Ref sig .tc := ⟨.hbm, 135, rfl⟩
abbrev main_cst_11 : Ref sig .tc := ⟨.hbm, 136, rfl⟩
abbrev main_v80 : Ref sig .tc := ⟨.hbm, 137, rfl⟩
abbrev main_v81 : Ref sig .tc := ⟨.hbm, 138, rfl⟩
abbrev main_c_12 : Ref sig .tc := ⟨.hbm, 139, rfl⟩
abbrev main_call2_cst : Ref sig .tc := ⟨.hbm, 140, rfl⟩
abbrev main_call2_v0 : Ref sig .tc := ⟨.hbm, 141, rfl⟩
abbrev main_call2_v1 : Ref sig .tc := ⟨.hbm, 142, rfl⟩
abbrev main_call2_cst_0 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_cst_1 : Ref sig .tc := ⟨.hbm, 150, rfl⟩
abbrev main_call2_v8 : Ref sig .tc := ⟨.hbm, 151, rfl⟩
abbrev main_call2_cst_2 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_v12 : Ref sig .tc := ⟨.hbm, 156, rfl⟩
abbrev main_call2_cst_3 : Ref sig .tc := ⟨.hbm, 157, rfl⟩
abbrev main_call2_v13 : Ref sig .tc := ⟨.hbm, 158, rfl⟩
abbrev main_call2_cst_4 : Ref sig .tc := ⟨.hbm, 159, rfl⟩
abbrev main_call2_call0_v0 : Ref sig .tc := ⟨.hbm, 160, rfl⟩
abbrev main_call2_call0_v1 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_cst_13 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_cst_14 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_cst_15 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩

abbrev nD : Nat := 1
abbrev τ : Topo := Topo.v7x

variable {F : FTy → Type} [FloatOps F]
-- ==== Proof.KernelFrame.lean ====
/- The frame of the kernel at any floats: whatever its result, every execution ends with the arguments as launched. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Ends

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's staging memref at step `t`, and that it is whole. -/
abbrev ms0_0 (t : Fin cfg0.N) : Memref sig .tc .vmem S512x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x2304 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2304 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x3072 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3072 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3072x768 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x768 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x768 .f32 := win0_14.stage (cfg0.slots t 14)
abbrev hs0_14 (t : Fin cfg0.N) : (ms0_14 t).IsWhole := hstage0_14 ((cfg0.slots t 14).cast nbuf0_14)
/-- The scratch as a memref. -/
abbrev scM0_0 : Memref sig .tc .vmem S512x768 .f32 := Memref.whole cc0_scratch0

/-- The class invariant with the scratch as a memref. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 4848000 in
/-- The body's triple: from whole memrefs, the inputs' at their contents and the result's and the scratch at anything, the
    body runs to the continuation holding the inputs' as they were and the other two at some contents. -/
theorem kernelRun0_A (c : Dev nD) (i : grid0.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x2304 .bf16) (harg4 : arg4.IsWhole) (arg5 : Memref sig .tc .vmem S1x2304 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S64x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S768x3072 .bf16) (harg11 : arg11.IsWhole) (arg12 : Memref sig .tc .vmem S1x3072 .f32) (harg12 : arg12.IsWhole) (arg13 : Memref sig .tc .vmem S3072x768 .bf16) (harg13 : arg13.IsWhole) (arg14 : Memref sig .tc .vmem S1x768 .f32) (harg14 : arg14.IsWhole) (arg15 : Memref sig .tc .vmem S512x768 .f32) (harg15 : arg15.IsWhole) (arg16 : Memref sig .tc .vmem S512x768 .f32) (harg16 : arg16.IsWhole)
    (x0 : Vec F S512x768 .f32) (x1 : Vec F S1x768 .f32) (x2 : Vec F S1x768 .f32) (x3 : Vec F S768x2304 .bf16) (x4 : Vec F S1x2304 .f32) (x5 : Vec F S768x768 .bf16) (x6 : Vec F S1x768 .f32) (x7 : Vec F S64x768 .f32) (x8 : Vec F S1x768 .f32) (x9 : Vec F S1x768 .f32) (x10 : Vec F S768x3072 .bf16) (x11 : Vec F S1x3072 .f32) (x12 : Vec F S3072x768 .bf16) (x13 : Vec F S1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)) -∗ K ⟨⟩))
          ⊢ wp frame (wpE (defs₀ (F := F)) Variants.none c none) E (cc0__block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__block_eq_skeleton]; unfold cc0__block_skel
    simp only [k0_part143_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part144_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    iexists _, _; isplitr; swap; · iexact HS0
    ipureintro; rfl

variable (m : (ℓ : Loc nD τ sig) → Buf (Elt F) ℓ) (ρ : Dev nD → PrngReg)
/-! ## The pipeline's proof data -/

/-- The window of which nothing is said: the result's. -/
def forgets0 : Fin 15 → Bool := fun w => w.val == 14

/-- The proof data: the arrays as the region finds them, each input's buffer at its block, the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- A step leaves the staged copies of the arguments as they were, argument by argument. -/
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input's buffer holds its block at every step. -/
theorem before0_0 (c : Dev nD) (t : Fin cfg0.N) (d) : (dats m 0 c).before 0 t d = iblk m c 0 t :=
  before0_0_of m (dats m 0 c) (A_eq m c 0) (after0_0 m c) t d
/-- A step finds the arguments' blocks staged, argument by argument. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d))

set_option maxHeartbeats 1600000 in
/-- The body at any step: the inputs' memrefs hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  iintro ⟨H0, H1, H2, H3, H4, H5, H6, H7, H8, H9, H10, H11, H12, H13, H14, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at step `t`'s slots. -/
theorem defs₀_row (t : Fin cfg0.N) :
    defs₀ (F := F) .tc cfg0.body (cfg0.bodyArgs t (cfg0.slots t)) = bodyAt0 t := by
  unfold defs₀; rw [Defs.onTc_tc]

/-- The body obligation, nothing said of the result's window. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every execution ends, the pipeline's inputs unchanged, nothing said of the result, the counters at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

/-- The frame: every execution ends with the arguments as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel.Ends

end
-- ==== Proof.Block.lean ====
/- The kernel's body over blocks and windows: the same operations as the printed body, named by what they do and
   written once per window, head and column group. -/
module

public import proofs.«01_k».proof.Proof.Gen.KernelIdeal.Skeleton

@[expose] public section

set_option maxRecDepth 16384

noncomputable section

namespace Cert.KernelIdeal.Block

open Cert.KernelIdeal Cert.KernelIdeal.Gen Idealize.ShloMosaic Idealize.SL.Sem

variable {F : FTy → Type} [FloatOps F]

/-- Each window's queries lie within the chunk's projections. -/
theorem slices_win (w : Fin 8) : S512x2304.Slices ![w.val * 64, 0] S64x768 := by revert w; decide
/-- Each window's keys lie within the chunk's projections. -/
theorem slices_win_k (w : Fin 8) : S512x2304.Slices ![w.val * 64, 768] S64x768 := by revert w; decide
/-- Each window's values lie within the chunk's projections. -/
theorem slices_win_v (w : Fin 8) : S512x2304.Slices ![w.val * 64, 1536] S64x768 := by revert w; decide
/-- Each head's columns lie within a row. -/
theorem slices_head (h : Fin 12) : S64x768.Slices ![0, h.val * 64] S64x64 := by revert h; decide
/-- Each group of 128 columns lies within a row. -/
theorem slices_col (c : Fin 6) : S64x768.Slices ![0, c.val * 128] S64x128 := by revert c; decide

/-- The rows of a chunk in window order. -/
def winRows (x : Vec F S512x768 .f32) : FVec F S512x768 .f32 :=
  shapeCast S512x768 (transpose S2x4x8x8x768 [0, 2, 1, 3, 4]
    (shapeCast S2x8x4x8x768 (shapeCast S512x768 x shapeCasts_S512x768_S512x768) shapeCasts_S512x768_S2x8x4x8x768)
    transposes_S2x8x4x8x768_p0_2_1_3_4_S2x4x8x8x768) shapeCasts_S2x4x8x8x768_S512x768

/-- The rows of a chunk, given in window order, back in image order. -/
def imgRows (x : FVec F S512x768 .f32) : FVec F S512x768 .f32 :=
  shapeCast S512x768 (transpose S2x8x4x8x768 [0, 2, 1, 3, 4]
    (shapeCast S2x4x8x8x768 x shapeCasts_S512x768_S2x4x8x8x768)
    transposes_S2x4x8x8x768_p0_2_1_3_4_S2x8x4x8x768) shapeCasts_S2x8x4x8x768_S512x768

/-- A row's mean, in a column. -/
def meanRows (x : FVec F S512x768 .f32) : FVec F S512x1 .f32 :=
  divf (shapeCast S512x1 (multiReduction .add [1] S512 x 0x00000000#32 reduces_S512x768_S512 (.inl rfl) rfl)
    shapeCasts_S512_S512x1) (broadcast S512x1 (Scalar.ofBits .f32 0x44400000#32))

/-- The rows less their means. -/
def centred (x : FVec F S512x768 .f32) : FVec F S512x768 .f32 :=
  subf x (broadcastTo S512x768 (meanRows x) broadcasts_S512x1_S512x768)

/-- The rows normalised, scaled by `g` and shifted by `b`. -/
def lnRows (x : FVec F S512x768 .f32) (g b : Vec F S1x768 .f32) : FVec F S512x768 .bf16 :=
  truncf .bf16 (addf (mulf (mulf (centred x)
    (broadcastTo S512x768 (rsqrt (addf (meanRows (mulf (centred x) (centred x)))
      (broadcast S512x1 (Scalar.ofBits .f32 0x3727C5AC#32)))) broadcasts_S512x1_S512x768))
    (broadcastTo S512x768 (shapeCast S1x768 g shapeCasts_S1x768_S1x768) broadcasts_S1x768_S512x768))
    (broadcastTo S512x768 (shapeCast S1x768 b shapeCasts_S1x768_S1x768) broadcasts_S1x768_S512x768)) bitsLt_bf16_f32

/-- Queries, keys and values of a chunk's rows. -/
def qkvRows (x : Vec F S512x768 .f32) (g b : Vec F S1x768 .f32) (w : Vec F S768x2304 .bf16) (wb : Vec F S1x2304 .f32) :
    FVec F S512x2304 .f32 :=
  addf (matmul dot_S512x768_S768x2304_S512x2304_1_0_0_1_n_n none (lnRows (winRows x) g b)
      (shapeCast S768x2304 w shapeCasts_S768x2304_S768x2304) (constant S512x2304 .f32 0x00000000#32))
    (broadcastTo S512x2304 (shapeCast S1x2304 wb shapeCasts_S1x2304_S1x2304) broadcasts_S1x2304_S512x2304)

/-- A window's queries. -/
def winQ (qkv : FVec F S512x2304 .f32) (w : Fin 8) : FVec F S64x768 .bf16 :=
  truncf .bf16 (extractStridedSlice S64x768 ![w.val * 64, 0] qkv (slices_win w)) bitsLt_bf16_f32

/-- A window's keys. -/
def winK (qkv : FVec F S512x2304 .f32) (w : Fin 8) : FVec F S64x768 .bf16 :=
  truncf .bf16 (extractStridedSlice S64x768 ![w.val * 64, 768] qkv (slices_win_k w)) bitsLt_bf16_f32

/-- A window's values. -/
def winV (qkv : FVec F S512x2304 .f32) (w : Fin 8) : FVec F S64x768 .bf16 :=
  truncf .bf16 (extractStridedSlice S64x768 ![w.val * 64, 1536] qkv (slices_win_v w)) bitsLt_bf16_f32

/-- One head of a window's vectors. -/
def head (x : FVec F S64x768 .bf16) (h : Fin 12) : FVec F S64x64 .bf16 :=
  extractStridedSlice S64x64 ![0, h.val * 64] x (slices_head h)

/-- A head's products of keys with queries: keys in rows, queries in columns. -/
def headDot (qkv : FVec F S512x2304 .f32) (w : Fin 8) (h : Fin 12) : FVec F S64x64 .f32 :=
  matmul dot_S64x64_S64x64_S64x64_1_1_0_0_n_n none (head (winK qkv w) h) (head (winQ qkv w) h)
    (constant S64x64 .f32 0x00000000#32)

/-- A window's scores, the heads side by side. -/
def scores (qkv : FVec F S512x2304 .f32) (bias : FVec F S64x768 .f32) (w : Fin 8) : FVec F S64x768 .f32 :=
  addf (mulf (concatenate S64x768 1
    [⟨S64x64, headDot qkv w 0⟩, ⟨S64x64, headDot qkv w 1⟩, ⟨S64x64, headDot qkv w 2⟩, ⟨S64x64, headDot qkv w 3⟩,
     ⟨S64x64, headDot qkv w 4⟩, ⟨S64x64, headDot qkv w 5⟩, ⟨S64x64, headDot qkv w 6⟩, ⟨S64x64, headDot qkv w 7⟩,
     ⟨S64x64, headDot qkv w 8⟩, ⟨S64x64, headDot qkv w 9⟩, ⟨S64x64, headDot qkv w 10⟩, ⟨S64x64, headDot qkv w 11⟩]
    concatenates_S64x64_S64x64_S64x64_S64x64_S64x64_S64x64_S64x64_S64x64_S64x64_S64x64_S64x64_S64x64_S64x768_d1)
    (broadcast S64x768 (Scalar.ofBits .f32 0x3E000000#32))) bias

/-- One round of the selection: each column's least entries become `+inf`. -/
def drop (a : FVec F S64x128 .f32) : FVec F S64x128 .f32 :=
  select (cmpf .oeq a (broadcastTo S64x128 (shapeCast S1x128
      (multiReduction .minimumf [0] S128 a 0x7F800000#32 reduces_S64x128_S128 (.inl rfl) rfl)
      shapeCasts_S128_S1x128) broadcasts_S1x128_S64x128))
    (broadcast S64x128 (Scalar.ofBits .f32 0x7F800000#32)) a

/-- What is left of a column group after the sixteen rounds. -/
def kept (ac : FVec F S64x128 .f32) : FVec F S64x128 .f32 :=
  drop (drop (drop (drop (drop (drop (drop (drop (drop (drop (drop (drop (drop (drop (drop (drop ac)))))))))))))))

/-- The exponentials of the entries kept, zero at the others. -/
def expKept (ac : FVec F S64x128 .f32) : FVec F S64x128 .f32 :=
  select (cmpf .oeq (kept ac) (broadcast S64x128 (Scalar.ofBits .f32 0x7F800000#32)))
    (broadcast S64x128 (Scalar.ofBits .f32 0x00000000#32))
    (exp (subf ac (broadcastTo S64x128 (shapeCast S1x128
      (multiReduction .maximumf [0] S128 ac 0xFF800000#32 reduces_S64x128_S128 (.inl rfl) rfl)
      shapeCasts_S128_S1x128) broadcasts_S1x128_S64x128)))

/-- The weights of a column group. -/
def colWeights (ac : FVec F S64x128 .f32) : FVec F S64x128 .bf16 :=
  truncf .bf16 (mulf (expKept ac) (broadcastTo S64x128
    (divf (broadcast S1x128 (Scalar.ofBits .f32 0x3F800000#32))
      (maximumf (shapeCast S1x128
        (multiReduction .add [0] S128 (expKept ac) 0x00000000#32 reduces_S64x128_S128 (.inl rfl) rfl)
        shapeCasts_S128_S1x128) (broadcast S1x128 (Scalar.ofBits .f32 0x0DA24260#32))))
    broadcasts_S1x128_S64x128)) bitsLt_bf16_f32

/-- The weights of one column group of a window's scores. -/
def groupWeights (s : FVec F S64x768 .f32) (c : Fin 6) : FVec F S64x128 .bf16 :=
  colWeights (extractStridedSlice S64x128 ![0, c.val * 128] s (slices_col c))

/-- A window's weights, the column groups side by side. -/
def weights (s : FVec F S64x768 .f32) : FVec F S64x768 .bf16 :=
  concatenate S64x768 1
    [⟨S64x128, groupWeights s 0⟩, ⟨S64x128, groupWeights s 1⟩, ⟨S64x128, groupWeights s 2⟩,
     ⟨S64x128, groupWeights s 3⟩, ⟨S64x128, groupWeights s 4⟩, ⟨S64x128, groupWeights s 5⟩]
    concatenates_S64x128_S64x128_S64x128_S64x128_S64x128_S64x128_S64x768_d1

/-- A head's weighted values: queries in rows. -/
def headOut (wgt v : FVec F S64x768 .bf16) (h : Fin 12) : FVec F S64x64 .f32 :=
  matmul dot_S64x64_S64x64_S64x64_0_0_1_1_n_n none (head wgt h) (head v h) (constant S64x64 .f32 0x00000000#32)

/-- The heads' weighted values side by side. -/
def heads (wgt v : FVec F S64x768 .bf16) : FVec F S64x768 .f32 :=
  concatenate S64x768 1
    [⟨S64x64, headOut wgt v 0⟩, ⟨S64x64, headOut wgt v 1⟩, ⟨S64x64, headOut wgt v 2⟩, ⟨S64x64, headOut wgt v 3⟩,
     ⟨S64x64, headOut wgt v 4⟩, ⟨S64x64, headOut wgt v 5⟩, ⟨S64x64, headOut wgt v 6⟩, ⟨S64x64, headOut wgt v 7⟩,
     ⟨S64x64, headOut wgt v 8⟩, ⟨S64x64, headOut wgt v 9⟩, ⟨S64x64, headOut wgt v 10⟩, ⟨S64x64, headOut wgt v 11⟩]
    concatenates_S64x64_S64x64_S64x64_S64x64_S64x64_S64x64_S64x64_S64x64_S64x64_S64x64_S64x64_S64x64_S64x768_d1

/-- A window's attention. -/
def winOut (qkv : FVec F S512x2304 .f32) (bias : FVec F S64x768 .f32) (w : Fin 8) : FVec F S64x768 .f32 :=
  heads (weights (scores qkv bias w)) (winV qkv w)

/-- A chunk's attention, the windows one above the other. -/
def att (qkv : FVec F S512x2304 .f32) (bias : FVec F S64x768 .f32) : FVec F S512x768 .bf16 :=
  truncf .bf16 (concatenate S512x768 0
    [⟨S64x768, winOut qkv bias 0⟩, ⟨S64x768, winOut qkv bias 1⟩, ⟨S64x768, winOut qkv bias 2⟩,
     ⟨S64x768, winOut qkv bias 3⟩, ⟨S64x768, winOut qkv bias 4⟩, ⟨S64x768, winOut qkv bias 5⟩,
     ⟨S64x768, winOut qkv bias 6⟩, ⟨S64x768, winOut qkv bias 7⟩]
    concatenates_S64x768_S64x768_S64x768_S64x768_S64x768_S64x768_S64x768_S64x768_S512x768_d0) bitsLt_bf16_f32

/-- What the body stores in the scratch: the chunk's rows after the attention, in window order. -/
def yBlock (x : Vec F S512x768 .f32) (g b : Vec F S1x768 .f32) (qw : Vec F S768x2304 .bf16) (qb : Vec F S1x2304 .f32)
    (bias : Vec F S64x768 .f32) (pw : Vec F S768x768 .bf16) (pb : Vec F S1x768 .f32) : FVec F S512x768 .f32 :=
  shapeCast S512x768 (addf (addf
    (matmul dot_S512x768_S768x768_S512x768_1_0_0_1_n_n none
      (att (qkvRows x g b qw qb) (shapeCast S64x768 bias shapeCasts_S64x768_S64x768))
      (shapeCast S768x768 pw shapeCasts_S768x768_S768x768) (constant S512x768 .f32 0x00000000#32))
    (broadcastTo S512x768 (shapeCast S1x768 pb shapeCasts_S1x768_S1x768) broadcasts_S1x768_S512x768)) (winRows x))
    shapeCasts_S512x768_S512x768

/-- The hidden layer before its activation, on one strip of its columns. -/
def strip (l : FVec F S512x768 .bf16) (w : Vec F S768x384 .bf16) (b : Vec F S1x384 .f32) : FVec F S512x384 .f32 :=
  addf (matmul dot_S512x768_S768x384_S512x384_1_0_0_1_n_n none l
      (shapeCast S768x384 w shapeCasts_S768x384_S768x384) (constant S512x384 .f32 0x00000000#32))
    (broadcastTo S512x384 (shapeCast S1x384 b shapeCasts_S1x384_S1x384) broadcasts_S1x384_S512x384)

/-- The activation. -/
def gelu (h : FVec F S512x384 .f32) : FVec F S512x384 .bf16 :=
  truncf .bf16 (mulf (mulf (broadcast S512x384 (Scalar.ofBits .f32 0x3F000000#32)) h)
    (addf (broadcast S512x384 (Scalar.ofBits .f32 0x3F800000#32))
      (erf (mulf h (broadcast S512x384 (Scalar.ofBits .f32 0x3F3504F3#32)))))) bitsLt_bf16_f32

/-- The hidden layer, the strips side by side. -/
def hidden (l : FVec F S512x768 .bf16) (w : Fin 8 → Vec F S768x384 .bf16) (b : Fin 8 → Vec F S1x384 .f32) :
    FVec F S512x3072 .bf16 :=
  concatenate S512x3072 1
    [⟨S512x384, gelu (strip l (w 0) (b 0))⟩, ⟨S512x384, gelu (strip l (w 1) (b 1))⟩,
     ⟨S512x384, gelu (strip l (w 2) (b 2))⟩, ⟨S512x384, gelu (strip l (w 3) (b 3))⟩,
     ⟨S512x384, gelu (strip l (w 4) (b 4))⟩, ⟨S512x384, gelu (strip l (w 5) (b 5))⟩,
     ⟨S512x384, gelu (strip l (w 6) (b 6))⟩, ⟨S512x384, gelu (strip l (w 7) (b 7))⟩]
    concatenates_S512x384_S512x384_S512x384_S512x384_S512x384_S512x384_S512x384_S512x384_S512x3072_d1

/-- What the body stores in the output block: the rows `y` after the MLP, in image order. -/
def outBlock (y : Vec F S512x768 .f32) (g b : Vec F S1x768 .f32) (w1 : Fin 8 → Vec F S768x384 .bf16)
    (b1 : Fin 8 → Vec F S1x384 .f32) (w2 : Vec F S3072x768 .bf16) (b2 : Vec F S1x768 .f32) : FVec F S512x768 .f32 :=
  imgRows (addf (addf
    (matmul dot_S512x3072_S3072x768_S512x768_1_0_0_1_n_n none (hidden (lnRows y g b) w1 b1)
      (shapeCast S3072x768 w2 shapeCasts_S3072x768_S3072x768) (constant S512x768 .f32 0x00000000#32))
    (broadcastTo S512x768 (shapeCast S1x768 b2 shapeCasts_S1x768_S1x768) broadcasts_S1x768_S512x768)) y)

end Cert.KernelIdeal.Block

end
-- ==== Proof.Body.lean ====
/- The kernel's body as its loads and two stores, over the blocks of `Block`. -/
module

public import proofs.«01_k».proof.Proof.Block
public import Idealize.ShloMosaic.Lib.Pipeline.Regions

@[expose] public section

set_option maxRecDepth 65536

noncomputable section

namespace Cert.KernelIdeal.Block

open Cert.KernelIdeal Cert.KernelIdeal.Gen Idealize.ShloMosaic Idealize.SL.Sem

variable {F : FTy → Type} [FloatOps F]

/-- Eight things by their number. -/
def vec8 {α : Type} (a0 a1 a2 a3 a4 a5 a6 a7 : α) : Fin 8 → α
  | 0 => a0 | 1 => a1 | 2 => a2 | 3 => a3 | 4 => a4 | 5 => a5 | 6 => a6 | 7 => a7

/-- The body: it loads its inputs and the rows the previous step left, stores the output block of those rows and
    leaves the rows of its own chunk. -/
def body
    (arg1 : Memref sig .tc .vmem S512x768 .f32)
    (arg2 : Memref sig .tc .vmem S1x768 .f32)
    (arg3 : Memref sig .tc .vmem S1x768 .f32)
    (arg4 : Memref sig .tc .vmem S768x2304 .bf16)
    (arg5 : Memref sig .tc .vmem S1x2304 .f32)
    (arg6 : Memref sig .tc .vmem S768x768 .bf16)
    (arg7 : Memref sig .tc .vmem S1x768 .f32)
    (arg8 : Memref sig .tc .vmem S64x768 .f32)
    (arg9 : Memref sig .tc .vmem S1x768 .f32)
    (arg10 : Memref sig .tc .vmem S1x768 .f32)
    (arg11 : Memref sig .tc .vmem S768x3072 .bf16)
    (arg12 : Memref sig .tc .vmem S1x3072 .f32)
    (arg13 : Memref sig .tc .vmem S3072x768 .bf16)
    (arg14 : Memref sig .tc .vmem S1x768 .f32)
    (arg15 : Memref sig .tc .vmem S512x768 .f32)
    (arg16 : Memref sig .tc .vmem S512x768 .f32) :
    Prog (TpuEff nD τ sig (Elt F) Λ₀ .tc) PUnit := do
  let x : Vec F S512x768 .f32 ← Prog.lift (.load arg1 (Rect.unit (s := S512x768) ![0, 0] S512x768.size inb_S512x768_S512x768_0_0).toLoadRect
    (View.loadsAt_vmem h_S512x768))
  let g1 : Vec F S1x768 .f32 ← Prog.lift (.load arg2 (Rect.unit (s := S1x768) ![0, 0] S1x768.size inb_S1x768_S1x768_0_0).toLoadRect
    (View.loadsAt_vmem h_S1x768))
  let n1 : Vec F S1x768 .f32 ← Prog.lift (.load arg3 (Rect.unit (s := S1x768) ![0, 0] S1x768.size inb_S1x768_S1x768_0_0).toLoadRect
    (View.loadsAt_vmem h_S1x768))
  let bias : Vec F S64x768 .f32 ← Prog.lift (.load arg8 (Rect.unit (s := S64x768) ![0, 0] S64x768.size inb_S64x768_S64x768_0_0).toLoadRect
    (View.loadsAt_vmem h_S64x768))
  let qw : Vec F S768x2304 .bf16 ← Prog.lift (.load arg4 (Rect.unit (s := S768x2304) ![0, 0] S768x2304.size inb_S768x2304_S768x2304_0_0).toLoadRect
    (View.loadsAt_vmem h_S768x2304))
  let qb : Vec F S1x2304 .f32 ← Prog.lift (.load arg5 (Rect.unit (s := S1x2304) ![0, 0] S1x2304.size inb_S1x2304_S1x2304_0_0).toLoadRect
    (View.loadsAt_vmem h_S1x2304))
  let y : Vec F S512x768 .f32 ← Prog.lift (.load arg16 (Rect.unit (s := S512x768) ![0, 0] S512x768.size inb_S512x768_S512x768_0_0).toLoadRect
    (View.loadsAt_vmem h_S512x768))
  let g2 : Vec F S1x768 .f32 ← Prog.lift (.load arg9 (Rect.unit (s := S1x768) ![0, 0] S1x768.size inb_S1x768_S1x768_0_0).toLoadRect
    (View.loadsAt_vmem h_S1x768))
  let n2 : Vec F S1x768 .f32 ← Prog.lift (.load arg10 (Rect.unit (s := S1x768) ![0, 0] S1x768.size inb_S1x768_S1x768_0_0).toLoadRect
    (View.loadsAt_vmem h_S1x768))
  let w0 : Vec F S768x384 .bf16 ← Prog.lift (.load arg11 (Rect.unit (s := S768x3072) ![0, 0] S768x384.size inb_S768x3072_S768x384_0_0).toLoadRect
    (View.loadsAt_vmem h_S768x384))
  let b0 : Vec F S1x384 .f32 ← Prog.lift (.load arg12 (Rect.unit (s := S1x3072) ![0, 0] S1x384.size inb_S1x3072_S1x384_0_0).toLoadRect
    (View.loadsAt_vmem h_S1x384))
  let w1 : Vec F S768x384 .bf16 ← Prog.lift (.load arg11 (Rect.unit (s := S768x3072) ![0, 384] S768x384.size inb_S768x3072_S768x384_0_384).toLoadRect
    (View.loadsAt_vmem h_S768x384))
  let b1 : Vec F S1x384 .f32 ← Prog.lift (.load arg12 (Rect.unit (s := S1x3072) ![0, 384] S1x384.size inb_S1x3072_S1x384_0_384).toLoadRect
    (View.loadsAt_vmem h_S1x384))
  let w2 : Vec F S768x384 .bf16 ← Prog.lift (.load arg11 (Rect.unit (s := S768x3072) ![0, 768] S768x384.size inb_S768x3072_S768x384_0_768).toLoadRect
    (View.loadsAt_vmem h_S768x384))
  let b2 : Vec F S1x384 .f32 ← Prog.lift (.load arg12 (Rect.unit (s := S1x3072) ![0, 768] S1x384.size inb_S1x3072_S1x384_0_768).toLoadRect
    (View.loadsAt_vmem h_S1x384))
  let w3 : Vec F S768x384 .bf16 ← Prog.lift (.load arg11 (Rect.unit (s := S768x3072) ![0, 1152] S768x384.size inb_S768x3072_S768x384_0_1152).toLoadRect
    (View.loadsAt_vmem h_S768x384))
  let b3 : Vec F S1x384 .f32 ← Prog.lift (.load arg12 (Rect.unit (s := S1x3072) ![0, 1152] S1x384.size inb_S1x3072_S1x384_0_1152).toLoadRect
    (View.loadsAt_vmem h_S1x384))
  let w4 : Vec F S768x384 .bf16 ← Prog.lift (.load arg11 (Rect.unit (s := S768x3072) ![0, 1536] S768x384.size inb_S768x3072_S768x384_0_1536).toLoadRect
    (View.loadsAt_vmem h_S768x384))
  let b4 : Vec F S1x384 .f32 ← Prog.lift (.load arg12 (Rect.unit (s := S1x3072) ![0, 1536] S1x384.size inb_S1x3072_S1x384_0_1536).toLoadRect
    (View.loadsAt_vmem h_S1x384))
  let w5 : Vec F S768x384 .bf16 ← Prog.lift (.load arg11 (Rect.unit (s := S768x3072) ![0, 1920] S768x384.size inb_S768x3072_S768x384_0_1920).toLoadRect
    (View.loadsAt_vmem h_S768x384))
  let b5 : Vec F S1x384 .f32 ← Prog.lift (.load arg12 (Rect.unit (s := S1x3072) ![0, 1920] S1x384.size inb_S1x3072_S1x384_0_1920).toLoadRect
    (View.loadsAt_vmem h_S1x384))
  let w6 : Vec F S768x384 .bf16 ← Prog.lift (.load arg11 (Rect.unit (s := S768x3072) ![0, 2304] S768x384.size inb_S768x3072_S768x384_0_2304).toLoadRect
    (View.loadsAt_vmem h_S768x384))
  let b6 : Vec F S1x384 .f32 ← Prog.lift (.load arg12 (Rect.unit (s := S1x3072) ![0, 2304] S1x384.size inb_S1x3072_S1x384_0_2304).toLoadRect
    (View.loadsAt_vmem h_S1x384))
  let w7 : Vec F S768x384 .bf16 ← Prog.lift (.load arg11 (Rect.unit (s := S768x3072) ![0, 2688] S768x384.size inb_S768x3072_S768x384_0_2688).toLoadRect
    (View.loadsAt_vmem h_S768x384))
  let b7 : Vec F S1x384 .f32 ← Prog.lift (.load arg12 (Rect.unit (s := S1x3072) ![0, 2688] S1x384.size inb_S1x3072_S1x384_0_2688).toLoadRect
    (View.loadsAt_vmem h_S1x384))
  let v2 : Vec F S3072x768 .bf16 ← Prog.lift (.load arg13 (Rect.unit (s := S3072x768) ![0, 0] S3072x768.size inb_S3072x768_S3072x768_0_0).toLoadRect
    (View.loadsAt_vmem h_S3072x768))
  let c2 : Vec F S1x768 .f32 ← Prog.lift (.load arg14 (Rect.unit (s := S1x768) ![0, 0] S1x768.size inb_S1x768_S1x768_0_0).toLoadRect
    (View.loadsAt_vmem h_S1x768))
  let _o : Vec F S512x768 .f32 ← Prog.lift (.load arg15 (Rect.unit (s := S512x768) ![0, 0] S512x768.size inb_S512x768_S512x768_0_0).toLoadRect
    (View.loadsAt_vmem h_S512x768))
  Prog.lift (.store arg15 (Rect.unit (s := S512x768) ![0, 0] S512x768.size inb_S512x768_S512x768_0_0)
    (outBlock y g2 n2 (vec8 w0 w1 w2 w3 w4 w5 w6 w7) (vec8 b0 b1 b2 b3 b4 b5 b6 b7) v2 c2)
    Finset.univ (View.stores_vmem_bits_univ h_S512x768 rfl) (.inl rfl))
  let pw : Vec F S768x768 .bf16 ← Prog.lift (.load arg6 (Rect.unit (s := S768x768) ![0, 0] S768x768.size inb_S768x768_S768x768_0_0).toLoadRect
    (View.loadsAt_vmem h_S768x768))
  let pb : Vec F S1x768 .f32 ← Prog.lift (.load arg7 (Rect.unit (s := S1x768) ![0, 0] S1x768.size inb_S1x768_S1x768_0_0).toLoadRect
    (View.loadsAt_vmem h_S1x768))
  let _s : Vec F S512x768 .f32 ← Prog.lift (.load arg16 (Rect.unit (s := S512x768) ![0, 0] S512x768.size inb_S512x768_S512x768_0_0).toLoadRect
    (View.loadsAt_vmem h_S512x768))
  Prog.lift (.store arg16 (Rect.unit (s := S512x768) ![0, 0] S512x768.size inb_S512x768_S512x768_0_0)
    (yBlock x g1 n1 qw qb bias pw pb)
    Finset.univ (View.stores_vmem_bits_univ h_S512x768 rfl) (.inl rfl))
  pure ⟨⟩

set_option maxHeartbeats 4000000 in
/-- The printed body is this one. -/
theorem body_eq (i : grid0.Coords)
    (arg1 : Memref sig .tc .vmem S512x768 .f32) (harg1 : arg1.IsWhole)
    (arg2 : Memref sig .tc .vmem S1x768 .f32) (harg2 : arg2.IsWhole)
    (arg3 : Memref sig .tc .vmem S1x768 .f32) (harg3 : arg3.IsWhole)
    (arg4 : Memref sig .tc .vmem S768x2304 .bf16) (harg4 : arg4.IsWhole)
    (arg5 : Memref sig .tc .vmem S1x2304 .f32) (harg5 : arg5.IsWhole)
    (arg6 : Memref sig .tc .vmem S768x768 .bf16) (harg6 : arg6.IsWhole)
    (arg7 : Memref sig .tc .vmem S1x768 .f32) (harg7 : arg7.IsWhole)
    (arg8 : Memref sig .tc .vmem S64x768 .f32) (harg8 : arg8.IsWhole)
    (arg9 : Memref sig .tc .vmem S1x768 .f32) (harg9 : arg9.IsWhole)
    (arg10 : Memref sig .tc .vmem S1x768 .f32) (harg10 : arg10.IsWhole)
    (arg11 : Memref sig .tc .vmem S768x3072 .bf16) (harg11 : arg11.IsWhole)
    (arg12 : Memref sig .tc .vmem S1x3072 .f32) (harg12 : arg12.IsWhole)
    (arg13 : Memref sig .tc .vmem S3072x768 .bf16) (harg13 : arg13.IsWhole)
    (arg14 : Memref sig .tc .vmem S1x768 .f32) (harg14 : arg14.IsWhole)
    (arg15 : Memref sig .tc .vmem S512x768 .f32) (harg15 : arg15.IsWhole)
    (arg16 : Memref sig .tc .vmem S512x768 .f32) (harg16 : arg16.IsWhole) :
    cc0__block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = body arg1 arg2 arg3 arg4 arg5 arg6 arg7 arg8 arg9 arg10 arg11 arg12 arg13 arg14 arg15 arg16 := by
  chain_rfl

end Cert.KernelIdeal.Block

end
-- ==== Proof.BodyRun.lean ====
/- The body run on whole staging memrefs: what it leaves in the output window and in the scratch. -/
module

public import proofs.«01_k».proof.Proof.Body
public import proofs.«01_k».proof.Proof.Gen.KernelIdeal.Frame
public import Idealize.ShloMosaic.Lib.Pipeline.Value

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Each strip of columns lies within the first weights. -/
theorem slices_w1 (k : Fin 8) : S768x3072.Slices ![0, k.val * 384] S768x384 := by revert k; decide
/-- Each strip of columns lies within the first offsets. -/
theorem slices_b1 (k : Fin 8) : S1x3072.Slices ![0, k.val * 384] S1x384 := by revert k; decide

/-- The strips of the first layer's weights. -/
def stripsW (w : Vec F S768x3072 .bf16) (k : Fin 8) : Vec F S768x384 .bf16 :=
  extractStridedSlice S768x384 ![0, k.val * 384] w (slices_w1 k)

/-- The strips of the first layer's offsets. -/
def stripsB (b : Vec F S1x3072 .f32) (k : Fin 8) : Vec F S1x384 .f32 :=
  extractStridedSlice S1x384 ![0, k.val * 384] b (slices_b1 k)

/-- The list of two zeros is zero everywhere. -/
theorem zeros2 : (![0, 0] : Fin 2 → Nat) = fun _ => 0 := funext fun a => by fin_cases a <;> rfl

/-- A load of a whole memref's box reads the box of its contents. -/
theorem readAt_box {s : Shape} {e : EltTy} {m : Memref sig .tc .vmem s e} (h : m.IsWhole) (X : Vec F s e) (r : Rect s) :
    View.readAt (Elt F) m.view r.toLoadRect (h.unread X) = View.ld X r := by
  rw [View.readAt_eq_ld, h.read_unread]

/-- A load of a whole memref reads its contents. -/
theorem readAt_all {s : Shape} {e : EltTy} {m : Memref sig .tc .vmem s e} (h : m.IsWhole) (X : Vec F s e)
    {off : Fin s.rank → Nat} (h0 : off = fun _ => 0) (inb : ∀ a, off a + s.size a ≤ s.size a) :
    View.readAt (Elt F) m.view (Rect.unit off s.size inb).toLoadRect (h.unread X) = X := by
  rw [readAt_box, View.ld_unit_zero h0]

/-- A whole memref after one store over all of it. -/
theorem read_store_all {s : Shape} {e : EltTy} (m : Memref sig .tc .vmem s e) (f : m.view.ty.Contents (Elt F))
    {off : Fin s.rank → Nat} (h0 : off = fun _ => 0) (inb : ∀ a, off a + s.size a ≤ s.size a) (w : Vec F s e) :
    m.view.read (Elt F) (m.view.writes (Elt F) f [⟨Rect.unit off s.size inb, w⟩]) = w := by
  rw [View.read_writes_eq_canon _ _ _ fun y => ⟨_, List.mem_singleton_self _, View.mem_set_unit_zero h0 inb y⟩,
    View.canon_unit_zero h0]

/-- The eight strips read out of the first weights are the strips of the whole. -/
theorem vec8_stripsW {m : Memref sig .tc .vmem S768x3072 .bf16} (h : m.IsWhole) (w : Vec F S768x3072 .bf16) :
    vec8 (View.readAt (Elt F) m.view (Rect.unit (s := S768x3072) ![0, 0] S768x384.size inb_S768x3072_S768x384_0_0).toLoadRect (h.unread w)) (View.readAt (Elt F) m.view (Rect.unit (s := S768x3072) ![0, 384] S768x384.size inb_S768x3072_S768x384_0_384).toLoadRect (h.unread w)) (View.readAt (Elt F) m.view (Rect.unit (s := S768x3072) ![0, 768] S768x384.size inb_S768x3072_S768x384_0_768).toLoadRect (h.unread w)) (View.readAt (Elt F) m.view (Rect.unit (s := S768x3072) ![0, 1152] S768x384.size inb_S768x3072_S768x384_0_1152).toLoadRect (h.unread w)) (View.readAt (Elt F) m.view (Rect.unit (s := S768x3072) ![0, 1536] S768x384.size inb_S768x3072_S768x384_0_1536).toLoadRect (h.unread w)) (View.readAt (Elt F) m.view (Rect.unit (s := S768x3072) ![0, 1920] S768x384.size inb_S768x3072_S768x384_0_1920).toLoadRect (h.unread w)) (View.readAt (Elt F) m.view (Rect.unit (s := S768x3072) ![0, 2304] S768x384.size inb_S768x3072_S768x384_0_2304).toLoadRect (h.unread w)) (View.readAt (Elt F) m.view (Rect.unit (s := S768x3072) ![0, 2688] S768x384.size inb_S768x3072_S768x384_0_2688).toLoadRect (h.unread w)) = stripsW w := by
  funext k
  fin_cases k <;> exact (readAt_box h w _).trans (View.ld_unit w _ _ _)

/-- The eight strips read out of the first offsets are the strips of the whole. -/
theorem vec8_stripsB {m : Memref sig .tc .vmem S1x3072 .f32} (h : m.IsWhole) (b : Vec F S1x3072 .f32) :
    vec8 (View.readAt (Elt F) m.view (Rect.unit (s := S1x3072) ![0, 0] S1x384.size inb_S1x3072_S1x384_0_0).toLoadRect (h.unread b)) (View.readAt (Elt F) m.view (Rect.unit (s := S1x3072) ![0, 384] S1x384.size inb_S1x3072_S1x384_0_384).toLoadRect (h.unread b)) (View.readAt (Elt F) m.view (Rect.unit (s := S1x3072) ![0, 768] S1x384.size inb_S1x3072_S1x384_0_768).toLoadRect (h.unread b)) (View.readAt (Elt F) m.view (Rect.unit (s := S1x3072) ![0, 1152] S1x384.size inb_S1x3072_S1x384_0_1152).toLoadRect (h.unread b)) (View.readAt (Elt F) m.view (Rect.unit (s := S1x3072) ![0, 1536] S1x384.size inb_S1x3072_S1x384_0_1536).toLoadRect (h.unread b)) (View.readAt (Elt F) m.view (Rect.unit (s := S1x3072) ![0, 1920] S1x384.size inb_S1x3072_S1x384_0_1920).toLoadRect (h.unread b)) (View.readAt (Elt F) m.view (Rect.unit (s := S1x3072) ![0, 2304] S1x384.size inb_S1x3072_S1x384_0_2304).toLoadRect (h.unread b)) (View.readAt (Elt F) m.view (Rect.unit (s := S1x3072) ![0, 2688] S1x384.size inb_S1x3072_S1x384_0_2688).toLoadRect (h.unread b)) = stripsB b := by
  funext k
  fin_cases k <;> exact (readAt_box h b _).trans (View.ld_unit b _ _ _)

set_option maxHeartbeats 4000000 in
/-- The body's triple: from whole memrefs, the inputs' at their contents and the scratch at `y`, the body runs to the
    continuation holding the inputs' as they were, the output's at the block of `y` and the scratch at the rows of this
    chunk. -/
theorem body_run (c : Dev nD) (i : grid0.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x2304 .bf16) (harg4 : arg4.IsWhole) (arg5 : Memref sig .tc .vmem S1x2304 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S64x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S768x3072 .bf16) (harg11 : arg11.IsWhole) (arg12 : Memref sig .tc .vmem S1x3072 .f32) (harg12 : arg12.IsWhole) (arg13 : Memref sig .tc .vmem S3072x768 .bf16) (harg13 : arg13.IsWhole) (arg14 : Memref sig .tc .vmem S1x768 .f32) (harg14 : arg14.IsWhole) (arg15 : Memref sig .tc .vmem S512x768 .f32) (harg15 : arg15.IsWhole) (arg16 : Memref sig .tc .vmem S512x768 .f32) (harg16 : arg16.IsWhole)
    (x : Vec F S512x768 .f32) (g1 : Vec F S1x768 .f32) (n1 : Vec F S1x768 .f32) (qw : Vec F S768x2304 .bf16) (qb : Vec F S1x2304 .f32) (pw : Vec F S768x768 .bf16) (pb : Vec F S1x768 .f32) (bias : Vec F S64x768 .f32) (g2 : Vec F S1x768 .f32) (n2 : Vec F S1x768 .f32) (w1 : Vec F S768x3072 .bf16) (b1 : Vec F S1x3072 .f32) (w2 : Vec F S3072x768 .bf16) (b2 : Vec F S1x768 .f32) (y : Vec F S512x768 .f32) :
      ∀ (E : Set ℕ) (K : PUnit → sProp 𝕄),
        iprop(owns (c : Thread nD τ) arg1 fullShare x ∗ owns (c : Thread nD τ) arg2 fullShare g1 ∗ owns (c : Thread nD τ) arg3 fullShare n1 ∗ owns (c : Thread nD τ) arg4 fullShare qw ∗ owns (c : Thread nD τ) arg5 fullShare qb ∗ owns (c : Thread nD τ) arg6 fullShare pw ∗ owns (c : Thread nD τ) arg7 fullShare pb ∗ owns (c : Thread nD τ) arg8 fullShare bias ∗ owns (c : Thread nD τ) arg9 fullShare g2 ∗ owns (c : Thread nD τ) arg10 fullShare n2 ∗ owns (c : Thread nD τ) arg11 fullShare w1 ∗ owns (c : Thread nD τ) arg12 fullShare b1 ∗ owns (c : Thread nD τ) arg13 fullShare w2 ∗ owns (c : Thread nD τ) arg14 fullShare b2 ∗ (∃ d, owns (c : Thread nD τ) arg15 fullShare d) ∗ owns (c : Thread nD τ) arg16 fullShare y
            ∗ (iprop(owns (c : Thread nD τ) arg1 fullShare x ∗ owns (c : Thread nD τ) arg2 fullShare g1 ∗ owns (c : Thread nD τ) arg3 fullShare n1 ∗ owns (c : Thread nD τ) arg4 fullShare qw ∗ owns (c : Thread nD τ) arg5 fullShare qb ∗ owns (c : Thread nD τ) arg6 fullShare pw ∗ owns (c : Thread nD τ) arg7 fullShare pb ∗ owns (c : Thread nD τ) arg8 fullShare bias ∗ owns (c : Thread nD τ) arg9 fullShare g2 ∗ owns (c : Thread nD τ) arg10 fullShare n2 ∗ owns (c : Thread nD τ) arg11 fullShare w1 ∗ owns (c : Thread nD τ) arg12 fullShare b1 ∗ owns (c : Thread nD τ) arg13 fullShare w2 ∗ owns (c : Thread nD τ) arg14 fullShare b2 ∗ owns (c : Thread nD τ) arg15 fullShare (outBlock y g2 n2 (stripsW w1) (stripsB b1) w2 b2) ∗ owns (c : Thread nD τ) arg16 fullShare (yBlock x g1 n1 qw qb bias pw pb)) -∗ K ⟨⟩))
          ⊢ wp frame (wpE (defs₀ (F := F)) Variants.none c none) E (cc0__block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    rw [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro
      rw [read_store_all _ _ zeros2, vec8_stripsW, vec8_stripsB, readAt_all harg16 y zeros2, readAt_all harg9 g2 zeros2,
        readAt_all harg10 n2 zeros2, readAt_all harg13 w2 zeros2, readAt_all harg14 b2 zeros2]
    iexists _; isplitr; swap; · iexact HS0
    ipureintro
    rw [read_store_all _ _ zeros2, readAt_all harg1 x zeros2, readAt_all harg2 g1 zeros2, readAt_all harg3 n1 zeros2,
      readAt_all harg4 qw zeros2, readAt_all harg5 qb zeros2, readAt_all harg8 bias zeros2, readAt_all harg6 pw zeros2,
      readAt_all harg7 pb zeros2]

end Cert.KernelIdeal.Block

end
-- ==== Proof.Launch.lean ====
/- The kernel's launch: the rows that the scratch carries from step to step, and what the result array holds at the
   end. -/
module

public import proofs.«01_k».proof.Proof.BodyRun
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows that step `t` leaves in the scratch. -/
def yAt (c : Dev nD) (t : Fin cfg0.N) : FVec F S512x768 .f32 :=
  yBlock (iblk m c 0 t) (iblk m c 1 t) (iblk m c 2 t) (iblk m c 3 t) (iblk m c 4 t) (iblk m c 7 t) (iblk m c 5 t) (iblk m c 6 t)

/-- The block that step `t` makes of the rows `y`. -/
def outAt (c : Dev nD) (t : Fin cfg0.N) (y : Vec F S512x768 .f32) : FVec F S512x768 .f32 :=
  outBlock y (iblk m c 8 t) (iblk m c 9 t) (stripsW (iblk m c 10 t)) (stripsB (iblk m c 11 t)) (iblk m c 12 t) (iblk m c 13 t)

/-- The scratch before step `t`: after a first step, at the rows of the step before. -/
def carried (c : Dev nD) (t : Fin (cfg0.N + 1)) : sProp 𝕄 :=
  iprop(∃ d, ⌜∀ u : Fin cfg0.N, u.val + 1 = t.val → d = yAt m c u⌝
    ∗ owns (c : Thread nD τ) (Memref.whole cc0_scratch0 : Memref sig .tc .vmem S512x768 .f32) fullShare d ∗ (∃ r, prngReg c r))

/-- The class invariant with the scratch as a memref. -/
theorem PhiA_eq (c : Dev nD) :
    (Pipeline.ΦA spec0 c : sProp 𝕄)
      = iprop(iprop((∃ d, owns (c : Thread nD τ) (Memref.whole cc0_scratch0 : Memref sig .tc .vmem S512x768 .f32) fullShare d)) ∗ (∃ r, prngReg c r)) := by
  unfold Pipeline.ΦA; rw [scopedRest0_eq]; simp only [owns_whole]; try rfl

/-- The window held to a relation: the result's. -/
def held : Fin 15 → Bool := fun w => w.val == 14

/-- What a step leaves in the result's window: from the second on, the block made of the rows of the step before. -/
def leaves (c : Dev nD) : (w : Fin cfg0.W) → Fin cfg0.N → ((cfg0.win w).block.Idx → Elt F (cfg0.win w).elt) → Prop :=
  fun w t => match w with
    | ⟨14, _⟩ => fun X => ∀ u : Fin cfg0.N, u.val + 1 = t.val → X = outAt m c t (yAt m c u)
    | _ => fun _ => True

/-- The proof data: the arrays as the region finds them, each input's buffer at its block, the scratch as carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ t := carried m c t
  q _ := fullShare
  owed _ := 0

/-- The launch starts from the arrays that memory holds then. -/
theorem dats_A (c : Dev nD) (w : Fin cfg0.W) : (dats m 0 c).A w = V m c (Pipeline.arrRef spec0 w) := by
  dsimp only [dats]

/-- A step leaves the staged copies of the arguments as they were, argument by argument. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]

/-- A step finds the arguments' blocks staged, argument by argument. -/
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d
theorem before_9 (c : Dev nD) (t : Fin cfg0.N) (d) : (dats m 0 c).before 9 t d = iblk m c 9 t :=
  before0_9_of m (dats m 0 c) (dats_A m c 9) (after_9 m c) t d
theorem before_10 (c : Dev nD) (t : Fin cfg0.N) (d) : (dats m 0 c).before 10 t d = iblk m c 10 t :=
  before0_10_of m (dats m 0 c) (dats_A m c 10) (after_10 m c) t d
theorem before_11 (c : Dev nD) (t : Fin cfg0.N) (d) : (dats m 0 c).before 11 t d = iblk m c 11 t :=
  before0_11_of m (dats m 0 c) (dats_A m c 11) (after_11 m c) t d
theorem before_12 (c : Dev nD) (t : Fin cfg0.N) (d) : (dats m 0 c).before 12 t d = iblk m c 12 t :=
  before0_12_of m (dats m 0 c) (dats_A m c 12) (after_12 m c) t d
theorem before_13 (c : Dev nD) (t : Fin cfg0.N) (d) : (dats m 0 c).before 13 t d = iblk m c 13 t :=
  before0_13_of m (dats m 0 c) (dats_A m c 13) (after_13 m c) t d

/-- What the body is called with at step `t`, -/
def stepPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S512x768 .f32) fullShare ((dats m 0 c).before 0 t d))
    ∗ (∃ d, owns (c : Thread nD τ) (win0_1.stage (cfg0.slots t 1) : Memref sig .tc .vmem S1x768 .f32) fullShare ((dats m 0 c).before 1 t d))
    ∗ (∃ d, owns (c : Thread nD τ) (win0_2.stage (cfg0.slots t 2) : Memref sig .tc .vmem S1x768 .f32) fullShare ((dats m 0 c).before 2 t d))
    ∗ (∃ d, owns (c : Thread nD τ) (win0_3.stage (cfg0.slots t 3) : Memref sig .tc .vmem S768x2304 .bf16) fullShare ((dats m 0 c).before 3 t d))
    ∗ (∃ d, owns (c : Thread nD τ) (win0_4.stage (cfg0.slots t 4) : Memref sig .tc .vmem S1x2304 .f32) fullShare ((dats m 0 c).before 4 t d))
    ∗ (∃ d, owns (c : Thread nD τ) (win0_5.stage (cfg0.slots t 5) : Memref sig .tc .vmem S768x768 .bf16) fullShare ((dats m 0 c).before 5 t d))
    ∗ (∃ d, owns (c : Thread nD τ) (win0_6.stage (cfg0.slots t 6) : Memref sig .tc .vmem S1x768 .f32) fullShare ((dats m 0 c).before 6 t d))
    ∗ (∃ d, owns (c : Thread nD τ) (win0_7.stage (cfg0.slots t 7) : Memref sig .tc .vmem S64x768 .f32) fullShare ((dats m 0 c).before 7 t d))
    ∗ (∃ d, owns (c : Thread nD τ) (win0_8.stage (cfg0.slots t 8) : Memref sig .tc .vmem S1x768 .f32) fullShare ((dats m 0 c).before 8 t d))
    ∗ (∃ d, owns (c : Thread nD τ) (win0_9.stage (cfg0.slots t 9) : Memref sig .tc .vmem S1x768 .f32) fullShare ((dats m 0 c).before 9 t d))
    ∗ (∃ d, owns (c : Thread nD τ) (win0_10.stage (cfg0.slots t 10) : Memref sig .tc .vmem S768x3072 .bf16) fullShare ((dats m 0 c).before 10 t d))
    ∗ (∃ d, owns (c : Thread nD τ) (win0_11.stage (cfg0.slots t 11) : Memref sig .tc .vmem S1x3072 .f32) fullShare ((dats m 0 c).before 11 t d))
    ∗ (∃ d, owns (c : Thread nD τ) (win0_12.stage (cfg0.slots t 12) : Memref sig .tc .vmem S3072x768 .bf16) fullShare ((dats m 0 c).before 12 t d))
    ∗ (∃ d, owns (c : Thread nD τ) (win0_13.stage (cfg0.slots t 13) : Memref sig .tc .vmem S1x768 .f32) fullShare ((dats m 0 c).before 13 t d))
    ∗ (∃ d, owns (c : Thread nD τ) (win0_14.stage (cfg0.slots t 14) : Memref sig .tc .vmem S512x768 .f32) fullShare d))

/-- and what it returns. -/
def stepPost (c : Dev nD) (t : Fin cfg0.N) : sProp 𝕄 :=
  iprop((dats m 0 c).Φ t.succ ∗ (dats m 0 c).owesAt () t.succ
    ∗ owns (c : Thread nD τ) (win0_0.stage (cfg0.slots t 0) : Memref sig .tc .vmem S512x768 .f32) fullShare ((dats m 0 c).after 0 t)
    ∗ owns (c : Thread nD τ) (win0_1.stage (cfg0.slots t 1) : Memref sig .tc .vmem S1x768 .f32) fullShare ((dats m 0 c).after 1 t)
    ∗ owns (c : Thread nD τ) (win0_2.stage (cfg0.slots t 2) : Memref sig .tc .vmem S1x768 .f32) fullShare ((dats m 0 c).after 2 t)
    ∗ owns (c : Thread nD τ) (win0_3.stage (cfg0.slots t 3) : Memref sig .tc .vmem S768x2304 .bf16) fullShare ((dats m 0 c).after 3 t)
    ∗ owns (c : Thread nD τ) (win0_4.stage (cfg0.slots t 4) : Memref sig .tc .vmem S1x2304 .f32) fullShare ((dats m 0 c).after 4 t)
    ∗ owns (c : Thread nD τ) (win0_5.stage (cfg0.slots t 5) : Memref sig .tc .vmem S768x768 .bf16) fullShare ((dats m 0 c).after 5 t)
    ∗ owns (c : Thread nD τ) (win0_6.stage (cfg0.slots t 6) : Memref sig .tc .vmem S1x768 .f32) fullShare ((dats m 0 c).after 6 t)
    ∗ owns (c : Thread nD τ) (win0_7.stage (cfg0.slots t 7) : Memref sig .tc .vmem S64x768 .f32) fullShare ((dats m 0 c).after 7 t)
    ∗ owns (c : Thread nD τ) (win0_8.stage (cfg0.slots t 8) : Memref sig .tc .vmem S1x768 .f32) fullShare ((dats m 0 c).after 8 t)
    ∗ owns (c : Thread nD τ) (win0_9.stage (cfg0.slots t 9) : Memref sig .tc .vmem S1x768 .f32) fullShare ((dats m 0 c).after 9 t)
    ∗ owns (c : Thread nD τ) (win0_10.stage (cfg0.slots t 10) : Memref sig .tc .vmem S768x3072 .bf16) fullShare ((dats m 0 c).after 10 t)
    ∗ owns (c : Thread nD τ) (win0_11.stage (cfg0.slots t 11) : Memref sig .tc .vmem S1x3072 .f32) fullShare ((dats m 0 c).after 11 t)
    ∗ owns (c : Thread nD τ) (win0_12.stage (cfg0.slots t 12) : Memref sig .tc .vmem S3072x768 .bf16) fullShare ((dats m 0 c).after 12 t)
    ∗ owns (c : Thread nD τ) (win0_13.stage (cfg0.slots t 13) : Memref sig .tc .vmem S1x768 .f32) fullShare ((dats m 0 c).after 13 t)
    ∗ (∃ X, ⌜leaves m c 14 t X⌝ ∗ owns (c : Thread nD τ) (win0_14.stage (cfg0.slots t 14) : Memref sig .tc .vmem S512x768 .f32) fullShare X))

set_option maxHeartbeats 1600000 in
/-- One step: the inputs' memrefs hold their blocks, so the body's triple applies to the scratch as carried. -/
theorem step (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = carried m c t.castSucc from rfl, show (dats m 0 c).Φ t.succ = carried m c t.succ from rfl]
  unfold carried
  iintro ⟨⟨%y, %hy, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  iintro ⟨H0, H1, H2, H3, H4, H5, H6, H7, H8, H9, H10, H11, H12, H13, H14, HS0⟩
  isplitl [HS0 Hg]
  · iexists _; isplitr; swap
    · isplitl [HS0]; · iexact HS0
      iexact Hg
    ipureintro
    intro u hu
    obtain rfl : u = t := Fin.ext (by simpa using hu)
    rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _; isplitr; swap; · iexact H14
  ipureintro
  show ∀ u : Fin cfg0.N, u.val + 1 = t.val → outBlock y _ _ _ _ _ _ = outAt m c t (yAt m c u)
  intro u hu
  rw [hy u (by simpa using hu)]
  rfl

/-- The body table's row at step `t`'s slots. -/
theorem row (t : Fin cfg0.N) :
    defs₀ (F := F) .tc cfg0.body (cfg0.bodyArgs t (cfg0.slots t)) = bodyAt0 t := by
  unfold defs₀; rw [Defs.onTc_tc]

/-- The body obligation, the result's window held to its relation. -/
theorem obligation (c : Dev nD) :
    Pipeline.BodyObligationRel (dats (F := F) m 0 c) (defs₀ (F := F)) Variants.none () Set.univ held (leaves m c) := fun t => by
  rw [bigSep_W0, bigSep_W0, row]
  refine triple_restated (step m c t) rfl ?_ fun _ => .rfl
  iterate 16 refine sep_mono .rfl ?_
  show (iprop(∃ Y, ⌜((dats m 0 c).toRRel held (leaves m c)).Finds 14 t Y⌝ ∗ owns c ((cfg0.win 14).stage (cfg0.slots t 14)) fullShare Y) : sProp 𝕄) ⊢ _
  iintro ⟨%Y, -, H⟩; iexists Y; iexact H

-- the launch theorem's implicit arguments are found by unifying its conclusion with this one
set_option backward.isDefEq.respectTransparency.types false in
/-- The launch: every execution ends, with the arrays as the proof data have them and the counters at zero. -/
theorem launched : θ_run defs (onTc (τ := τ) (main (F := F))) (s₀ m ρ)
    (fun r => Pipeline.RDat.FramePost (cfgs 0) (fun c => (dats m 0 c).toRRel held (leaves m c)) (V m) r ∧ r.2.sem = fun _ => 0) :=
  Pipeline.RDat.θ_run_frame_track (Q' := _) cfgs (0 : Fin 1) launch0 defs₀ Variants.none
    (fun c => (dats m 0 c).toRRel held (leaves m c)) m ρ main
    (hbody := fun c => (obligation m c).toRRel) (hshare := fun c => (dats m 0 c).share_full fun _ => rfl)
    (howed := fun _ _ => rfl) (V := V m) (hmain := hmain m Variants.none) (hA := dats_A m)
    (hin := fun c => by
      show _ ⊢ carried m c 0
      rw [PhiA_eq]; unfold carried
      iintro ⟨⟨%d, HS⟩, Hg⟩
      iexists d; isplitr
      · ipureintro; intro u hu; exact absurd hu (Nat.succ_ne_zero _)
      isplitl [HS]; · iexact HS
      iexact Hg)
    (hout := fun c => by
      show carried m c _ ⊢ _
      rw [PhiA_eq]; unfold carried
      iintro ⟨%d, -, HS, Hg⟩
      isplitl [HS]; · iexists d; iexact HS
      iexact Hg)

end Cert.KernelIdeal.Block

end
-- ==== Proof.Result.lean ====
/- What the kernel's result array holds: each chunk's block, made of the rows that the chunk's step carried. -/
module

public import proofs.«01_k».proof.Proof.Launch

@[expose] public section

set_option maxRecDepth 16384

noncomputable section

namespace Cert.KernelIdeal.Block

open Cert.KernelIdeal Cert.KernelIdeal.Gen
open Idealize.ShloMosaic Idealize.ShloMosaic.TcCoe
open Idealize.SL.Sem
open Idealize.ShloMosaic.Pipeline (Dat RDat Cfg Window)

variable {F : FTy → Type} [FloatOps F]
variable (m : (ℓ : Loc nD τ sig) → Buf (Elt F) ℓ) (ρ : Dev nD → PrngReg)

/-- The step of chunk `k`. -/
def stepOf (k : Fin 16) : Fin cfg0.N := ⟨k.val, by have : cfg0.N = 17 := N_0; omega⟩

/-- The step after chunk `k`'s. -/
def stepAfter (k : Fin 16) : Fin cfg0.N := ⟨k.val + 1, by have : cfg0.N = 17 := N_0; omega⟩

/-- The chunk of a row of the result. -/
def chunkOf (i : S8192x768.Idx) : Fin 16 := ⟨(i 0).val / 512, by have : (i 0).val < 8192 := (i 0).isLt; omega⟩

/-- A row's place in its chunk. -/
def inChunk (i : S8192x768.Idx) : S512x768.Idx :=
  fun | ⟨0, _⟩ => (⟨(i 0).val % 512, Nat.mod_lt _ (by decide)⟩ : Fin 512) | ⟨1, _⟩ => (i 1 : Fin 768)

/-- The result: row by row the block of the row's chunk. -/
def result (c : Dev nD) : Buf (Elt F) ((c : Thread nD τ).loc main_v0) := fun i : S8192x768.Idx =>
  outAt m c (stepAfter (chunkOf i)) (yAt m c (stepOf (chunkOf i))) (inChunk i)

/-- Every step but the first writes its block of the result out. -/
theorem flush_iff : ∀ t : Fin cfg0.N, (cfg0.win 14).flush t = true ↔ t.val ≠ 0 := by decide +kernel

/-- Where the block of the result at a step starts, and that it is 512 rows of 768 columns. -/
theorem index_row : ∀ t : Fin cfg0.N, win0_14.index t 0 * win0_14.size 0 = (t.val - 1) * 512
    ∧ win0_14.xsize (grid0.coords t) 0 = 512 ∧ win0_14.index t 1 * win0_14.size 1 = 0
    ∧ win0_14.xsize (grid0.coords t) 1 = 768 := by decide +kernel

/-- The rows of step `t`'s block of the result. -/
theorem mem_block (t : Fin cfg0.N) (i : S8192x768.Idx) :
    i ∈ ((cfg0.win 14).blk t).view.set ↔ (t.val - 1) * 512 ≤ (i 0 : Nat) ∧ (i 0 : Nat) < (t.val - 1) * 512 + 512 := by
  show i ∈ ((View.whole main_v0).slice (win0_14.rect t)).set ↔ _
  rw [View.set_slice_whole, Rect.mem_set_unit]
  have h1 : (i 1 : Nat) < 768 := (i 1).isLt
  have e := index_row t
  refine ⟨fun h => ?_, fun h a => ?_⟩
  · have : win0_14.index t 0 * win0_14.size 0 ≤ (i 0 : Nat) ∧ (i 0 : Nat) < win0_14.index t 0 * win0_14.size 0 + win0_14.xsize (grid0.coords t) 0 := h 0
    rw [e.1, e.2.1] at this; exact this
  · match a with
    | ⟨0, _⟩ => show win0_14.index t 0 * win0_14.size 0 ≤ (i 0 : Nat) ∧ (i 0 : Nat) < win0_14.index t 0 * win0_14.size 0 + win0_14.xsize (grid0.coords t) 0
                rw [e.1, e.2.1]; exact h
    | ⟨1, _⟩ => show win0_14.index t 1 * win0_14.size 1 ≤ (i 1 : Nat) ∧ (i 1 : Nat) < win0_14.index t 1 * win0_14.size 1 + win0_14.xsize (grid0.coords t) 1
                rw [e.2.2.1, e.2.2.2]; omega

/-- The steps' blocks tile the result. -/
theorem cover (i : S8192x768.Idx) :
    ∃ t : Fin cfg0.N, (cfg0.win 14).flush t = true ∧ i ∈ ((cfg0.win 14).blk t).view.set := by
  have h0 : (i 0 : Nat) < 8192 := (i 0).isLt
  refine ⟨stepAfter (chunkOf i), (flush_iff _).mpr (Nat.succ_ne_zero _), ?_⟩
  rw [mem_block]
  show (((i 0).val / 512 + 1 - 1) * 512 ≤ (i 0).val) ∧ (i 0).val < ((i 0).val / 512 + 1 - 1) * 512 + 512
  omega

/-- Step `t`'s block of the result, read back, is what the step makes of the rows carried. -/
theorem block_result (c : Dev nD) (t u : Fin cfg0.N) (h : u.val + 1 = t.val) :
    ((cfg0.win 14).blk t).view.read (Elt F) (result m c) = (cfg0.win 14).cut (grid0.coords t) (outAt m c t (yAt m c u)) := by
  have e := index_row t
  have hN : cfg0.N = 17 := N_0
  have hu := u.isLt; have ht := t.isLt
  funext y
  have h0 : (y 0 : Nat) < 512 := e.2.1 ▸ (y 0).isLt
  have h1 : (y 1 : Nat) < 768 := e.2.2.2 ▸ (y 1).isLt
  show result m c ((win0_14.rect t).emb y) = outAt m c t (yAt m c u) _
  have r0 : ((win0_14.rect t).emb y 0).val = u.val * 512 + (y 0).val := by
    rw [Window.rect_emb_val win0_14 t y 0, e.1, ← h]; rfl
  have r1 : ((win0_14.rect t).emb y 1).val = (y 1).val := by
    rw [Window.rect_emb_val win0_14 t y 1, e.2.2.1, Nat.zero_add]
  have ek : chunkOf ((win0_14.rect t).emb y) = ⟨u.val, by omega⟩ := Fin.ext (by
    show ((win0_14.rect t).emb y 0).val / 512 = u.val
    rw [r0]; omega)
  unfold result
  rw [ek, show stepAfter ⟨u.val, by omega⟩ = t from Fin.ext h, show stepOf ⟨u.val, by omega⟩ = u from Fin.ext rfl]
  refine congrArg (outAt m c t (yAt m c u)) (funext fun a => Fin.ext ?_)
  match a with
  | ⟨0, _⟩ =>
    show ((win0_14.rect t).emb y 0).val % 512 = (y 0).val
    rw [r0]; omega
  | ⟨1, _⟩ =>
    show ((win0_14.rect t).emb y 1).val = (y 1).val
    exact r1

/-- The arrays at the end: the result's at its blocks, the arguments as launched. -/
theorem run : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => by
    obtain ⟨h, -⟩ := h
    have rest : ∀ b ∈ Pipeline.restRefs sig spec0, r.2.mem ((c : Thread nD τ).loc b) = V m c b := (h c).2
    obtain ⟨after, hL, hA⟩ := RDat.FramePost.exists_exact h c
    have key : Dat.arrAt (cfg := cfg0) (((dats m 0 c).toRRel held (leaves m c)).withAfter after) 14 cfg0.N = result m c := by
      refine Dat.arrAt_eq_of_cover (cfg := cfg0) (c := c) (((dats m 0 c).toRRel held (leaves m c)).withAfter after) 14 (result m c) (fun t ht => ?_) cover
      have h0 := (flush_iff t).mp ht
      have hl : leaves m c 14 t (after 14 t) := (dats m 0 c).toRRel_leaves (w := 14) rfl (hL 14 t ht)
      have hu : t.val - 1 + 1 = t.val := by omega
      have ht' : t.val - 1 < cfg0.N := Nat.lt_of_le_of_lt (Nat.sub_le _ _) t.isLt
      rw [block_result m c t ⟨t.val - 1, ht'⟩ hu, ← hl ⟨t.val - 1, ht'⟩ hu]
      rfl
    exact ⟨(hA 14).trans key, (rest main_arg0 (Pipeline.mem_restRefs_of main_arg0 (by decide) (by decide))).trans (V_main_arg0 m c),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c),
      (rest main_arg5 (Pipeline.mem_restRefs_of main_arg5 (by decide) (by decide))).trans (V_main_arg5 m c),
      (rest main_arg6 (Pipeline.mem_restRefs_of main_arg6 (by decide) (by decide))).trans (V_main_arg6 m c),
      (rest main_arg7 (Pipeline.mem_restRefs_of main_arg7 (by decide) (by decide))).trans (V_main_arg7 m c),
      (rest main_arg8 (Pipeline.mem_restRefs_of main_arg8 (by decide) (by decide))).trans (V_main_arg8 m c),
      (rest main_arg9 (Pipeline.mem_restRefs_of main_arg9 (by decide) (by decide))).trans (V_main_arg9 m c),
      (rest main_arg10 (Pipeline.mem_restRefs_of main_arg10 (by decide) (by decide))).trans (V_main_arg10 m c),
      (rest main_arg11 (Pipeline.mem_restRefs_of main_arg11 (by decide) (by decide))).trans (V_main_arg11 m c),
      (rest main_arg12 (Pipeline.mem_restRefs_of main_arg12 (by decide) (by decide))).trans (V_main_arg12 m c),
      (rest main_arg13 (Pipeline.mem_restRefs_of main_arg13 (by decide) (by decide))).trans (V_main_arg13 m c)⟩, h.2⟩) (launched m ρ)

end Cert.KernelIdeal.Block

end
-- ==== Proof.Scalars.lean ====
/- Facts about single extended reals and rows of them: the normalisation's two spellings, a constant factor of a sum of
   products, and the weights of a row by sixteen deletions or by a descending sort. -/
module

public import Idealize.ShloMosaic.Lib.Pointwise
public import Idealize.ShloMosaic.Lib.SortFacts

@[expose] public section

noncomputable section

namespace Cert.Scalars

open Idealize.ShloMosaic

/-- Dividing by a square root is multiplying by the reciprocal square root, over the positive numbers and `+inf`. -/
theorem div_sqrt_eq (x y : EReal) (hy : 0 < y) : Ideal.div x (Ideal.sqrt y) = x * Ideal.rsqrt y := by
  induction y with
  | bot => exact absurd hy (by simp)
  | top => simp [Ideal.div]
  | coe r =>
    have hr : 0 < r := by exact_mod_cast hy
    have hs : Real.sqrt r ≠ 0 := (Real.sqrt_pos.mpr hr).ne'
    rw [Ideal.sqrt_coe, if_neg (not_lt.mpr hr.le), Ideal.rsqrt_coe, if_neg (not_lt.mpr hr.le), if_neg hr.ne',
      Ideal.div_coe hs, one_div]

/-- A square is not negative. -/
theorem mul_self_nonneg (x : EReal) : 0 ≤ x * x := by
  induction x with
  | bot => simp
  | top => simp
  | coe r => rw [← EReal.coe_mul]; exact_mod_cast _root_.mul_self_nonneg r

/-- A nonnegative number divided by a positive real is not negative. -/
theorem div_nonneg {x : EReal} (hx : 0 ≤ x) {c : ℝ} (hc : 0 < c) : 0 ≤ Ideal.div x (c : EReal) := by
  rw [Ideal.div_coe hc.ne']
  exact mul_nonneg hx (by exact_mod_cast (by positivity : (0:ℝ) ≤ 1 / c))

/-- A nonnegative real factor of every first factor of a sum of products comes out of the sum. -/
theorem sum_mul_const {n : ℕ} (q k : Fin n → EReal) {c : ℝ} (hc : 0 ≤ c) :
    ∑ i, (q i * (c : EReal)) * k i = (∑ i, k i * q i) * (c : EReal) := by
  have h : ∀ s : Finset (Fin n), ∑ i ∈ s, (q i * (c : EReal)) * k i = (∑ i ∈ s, k i * q i) * (c : EReal) := by
    intro s
    induction s using Finset.cons_induction with
    | empty => simp
    | cons a s ha ih =>
      rw [Finset.sum_cons, Finset.sum_cons, ih,
        EReal.right_distrib_of_nonneg_of_ne_top (by exact_mod_cast hc) (EReal.coe_ne_top c),
        mul_right_comm, mul_comm (q a)]
  exact h _

/-- One round of the selection on a row: its least entries become `+inf`. -/
def dropRow (a : Fin 64 → EReal) : Fin 64 → EReal :=
  fun j => if a j = (Finset.univ : Finset (Fin 64)).fold min ⊤ a then ⊤ else a j

/-- What the sixteen rounds leave of a row. -/
def keptRow (f : Fin 64 → EReal) : Fin 64 → EReal := dropRow^[16] f

/-- A row's exponentials by the sixteen rounds, zero at the entries deleted. -/
def expRow (f : Fin 64 → EReal) : Fin 64 → EReal :=
  fun j => if keptRow f j = ⊤ then 0 else Ideal.exp (f j - (Finset.univ : Finset (Fin 64)).fold max ⊥ f)

/-- A row's weights by the sixteen rounds, with a floor `c` under the sum. -/
def roundWeights (c : EReal) (f : Fin 64 → EReal) : Fin 64 → EReal :=
  fun j => expRow f j * Ideal.div 1 (max (∑ k, expRow f k) c)

/-- The order of a descending sort of a row. -/
def before (f : Fin 64 → EReal) (k k' : Fin 64) : Bool := Ideal.cmp .ogt (f k) (f k') == 1#1

/-- The position in the row of the `t`-th largest entry. -/
def rank (f : Fin 64 → EReal) (t : Fin 64) : Fin 64 := sortedFrom (before f) t

/-- The position in the row of the `t`-th of the 48 largest entries. -/
def topRank (f : Fin 64 → EReal) (t : Fin 48) : Fin 64 := rank f ⟨t.val, by omega⟩

/-- The exponentials of the 48 largest entries, less the largest of them. -/
def topExp (f : Fin 64 → EReal) (t : Fin 48) : EReal :=
  Ideal.exp (f (topRank f t) - max ⊥ ((Finset.univ : Finset (Fin 48)).fold max ⊥ fun t => f (topRank f t)))

/-- A row's weights by the sort: the 48 largest entries' softmax at their positions, zero elsewhere. -/
def sortWeights (f : Fin 64 → EReal) (j : Fin 64) : EReal :=
  ∑ t : Fin 48, (if topRank f t = j then 1 else 0) * Ideal.div (topExp f t) (∑ t, topExp f t)

/-- The sorted row does not increase. -/
theorem rank_le (f : Fin 64 → EReal) {s t : Fin 64} (h : s ≤ t) : f (rank f t) ≤ f (rank f s) := by
  have hb : ∀ a b, before f a b = true ↔ f b < f a := fun a b => by
    simp only [before, Ideal.cmp, beq_iff_eq]
    by_cases h : f b < f a <;> simp [h]
  rcases eq_or_lt_of_le h with e | h
  · rw [e]
  have hno := sortedFrom_noInversion (before f) (before f)
    (fun a b hab => by
      rw [hb] at hab
      rw [← Bool.not_eq_true, hb]
      exact not_lt.mpr hab.le)
    (fun _ _ h => h)
    (fun a b c hab hbc => by
      rw [← Bool.not_eq_true, hb, not_lt] at *
      exact hab.trans hbc) s t h
  rw [← Bool.not_eq_true, hb, not_lt] at hno
  exact hno

/-- Two places of the sorted row come from two positions. -/
theorem rank_inj {f : Fin 64 → EReal} {s t : Fin 64} (h : rank f s = rank f t) : s = t := sortedFrom_injective _ h

/-- Every position is some place's. -/
theorem exists_rank (f : Fin 64 → EReal) (j : Fin 64) : ∃ t, rank f t = j := sortedFrom_surjective _ j

/-- The row's largest entry is the sorted row's first. -/
theorem fold_max (f : Fin 64 → EReal) : (Finset.univ : Finset (Fin 64)).fold max ⊥ f = f (rank f 0) := by
  apply le_antisymm
  · refine Finset.sup_le (f := f) fun j _ => ?_
    obtain ⟨u, rfl⟩ := exists_rank f j
    exact rank_le f (Fin.zero_le u)
  · exact Finset.le_sup (f := f) (Finset.mem_univ _)

/-- So is the largest of the 48. -/
theorem fold_max_top (f : Fin 64 → EReal) :
    max ⊥ ((Finset.univ : Finset (Fin 48)).fold max ⊥ fun t => f (topRank f t)) = f (rank f 0) := by
  rw [max_eq_right bot_le]
  apply le_antisymm
  · exact Finset.sup_le (f := fun t => f (topRank f t)) fun t _ => rank_le f (Fin.zero_le _)
  · have h := Finset.le_sup (f := fun t => f (topRank f t)) (Finset.mem_univ (0 : Fin 48))
    rw [← show topRank f 0 = rank f 0 from rfl]
    exact h

/-- An exponential is not negative. -/
theorem topExp_nonneg (f : Fin 64 → EReal) (t : Fin 48) : 0 ≤ topExp f t := by
  rw [topExp]
  generalize (f (topRank f t) - _ : EReal) = y
  induction y with
  | bot => simp
  | top => simp
  | coe r => rw [Ideal.exp_coe]; exact_mod_cast (Real.exp_pos r).le

/-- A row whose entries are below `+inf` and whose sixteen least differ from one another and from the rest. -/
structure Cut (f : Fin 64 → EReal) : Prop where
  strict : ∀ t : Fin 16, f (rank f ⟨48 + t.val, by omega⟩) < f (rank f ⟨47 + t.val, by omega⟩)
  lt_top : f (rank f 0) < ⊤

section

variable {f : Fin 64 → EReal} (hf : Cut f)
include hf

/-- The last sixteen places hold less than all places before them. -/
theorem rank_lt {s t : Fin 64} (h : s < t) (ht : 48 ≤ t.val) : f (rank f t) < f (rank f s) := by
  have hs := Fin.lt_def.mp h
  have h1 := hf.strict ⟨t.val - 48, by omega⟩
  have e1 : (⟨48 + (t.val - 48), by omega⟩ : Fin 64) = t := Fin.ext (by simp; omega)
  have h2 : f (rank f ⟨47 + (t.val - 48), by omega⟩) ≤ f (rank f s) := rank_le f (Fin.le_def.mpr (by simp; omega))
  simp only [e1] at h1
  exact h1.trans_le h2

/-- After `r` rounds the `r` last places of the sorted row are `+inf`, the others as they were. -/
theorem dropRow_iter (r : ℕ) (hr : r ≤ 16) (t : Fin 64) :
    dropRow^[r] f (rank f t) = if 64 ≤ t.val + r then ⊤ else f (rank f t) := by
  induction r generalizing t with
  | zero => rw [if_neg (by omega)]; rfl
  | succ r ih =>
    have ih := ih (by omega)
    have hmin : (Finset.univ : Finset (Fin 64)).fold min ⊤ (dropRow^[r] f) = f (rank f ⟨63 - r, by omega⟩) := by
      apply le_antisymm
      · refine (Finset.inf_le (f := dropRow^[r] f) (Finset.mem_univ (rank f ⟨63 - r, by omega⟩))).trans ?_
        rw [ih, if_neg (by simp only; omega)]
      · refine Finset.le_inf (f := dropRow^[r] f) fun j _ => ?_
        obtain ⟨u, rfl⟩ := exists_rank f j
        rw [ih]
        split_ifs with h
        · exact le_top
        · exact rank_le f (Fin.le_def.mpr (by simp only; omega))
    rw [Function.iterate_succ_apply']
    change (if dropRow^[r] f (rank f t) = (Finset.univ : Finset (Fin 64)).fold min ⊤ (dropRow^[r] f) then ⊤
      else dropRow^[r] f (rank f t)) = _
    rw [hmin, ih]
    by_cases h : 64 ≤ t.val + r
    · rw [if_pos h, if_pos (by omega : 64 ≤ t.val + (r + 1)), ite_self]
    · rw [if_neg h]
      by_cases h' : t.val + r = 63
      · have e : t = ⟨63 - r, by omega⟩ := Fin.ext (by simp only; omega)
        rw [if_pos (by rw [← e]), if_pos (by omega)]
      · rw [if_neg, if_neg (by omega)]
        exact (rank_lt hf (Fin.lt_def.mpr (by simp only; omega)) (by simp only; omega)).ne'

/-- The sixteen rounds delete the sixteen last places of the sorted row. -/
theorem keptRow_rank (t : Fin 64) : keptRow f (rank f t) = ⊤ ↔ 48 ≤ t.val := by
  rw [keptRow, dropRow_iter hf 16 le_rfl]
  split_ifs with h
  · exact ⟨fun _ => by omega, fun _ => rfl⟩
  · exact ⟨fun e => absurd e ((rank_le f (Fin.zero_le t)).trans_lt hf.lt_top).ne, fun e => absurd e (by omega)⟩

/-- The largest entry is a real number. -/
theorem top_real : ∃ M : ℝ, f (rank f 0) = (M : EReal) := by
  have h1 := rank_lt hf (show (0 : Fin 64) < 48 by decide) le_rfl
  exact ⟨_, (EReal.coe_toReal hf.lt_top.ne (bot_le.trans_lt h1).ne').symm⟩

/-- The exponentials by the sixteen rounds, along the sorted row. -/
theorem expRow_rank (t : Fin 64) :
    expRow f (rank f t) = if 48 ≤ t.val then 0 else Ideal.exp (f (rank f t) - f (rank f 0)) := by
  rw [expRow, fold_max]
  by_cases h : 48 ≤ t.val
  · rw [if_pos ((keptRow_rank hf t).mpr h), if_pos h]
  · rw [if_neg (fun e => h ((keptRow_rank hf t).mp e)), if_neg h]

/-- The two sums of exponentials agree. -/
theorem sum_expRow : ∑ k, expRow f k = ∑ t, topExp f t := by
  have hb : Function.Bijective (rank f) := ⟨sortedFrom_injective _, sortedFrom_surjective _⟩
  rw [← hb.sum_comp (expRow f)]
  simp only [expRow_rank hf]
  refine (Fin.sum_univ_add (a := 48) (b := 16)
    (fun t : Fin 64 => if 48 ≤ t.val then (0 : EReal) else Ideal.exp (f (rank f t) - f (rank f 0)))).trans ?_
  have h2 : ∑ i : Fin 16, (if 48 ≤ (Fin.natAdd 48 i : Fin 64).val then (0 : EReal)
      else Ideal.exp (f (rank f (Fin.natAdd 48 i)) - f (rank f 0))) = 0 :=
    Finset.sum_eq_zero fun i _ => if_pos (Nat.le_add_right 48 i.val)
  refine (congrArg₂ (· + ·) rfl h2).trans ?_
  rw [add_zero]
  refine Finset.sum_congr rfl fun t _ => ?_
  rw [if_neg (show ¬ 48 ≤ (Fin.castAdd 16 t).val from Nat.not_le.mpr t.isLt), topExp, fold_max_top]
  rfl

/-- The sum of the exponentials is at least one. -/
theorem one_le_sum : 1 ≤ ∑ t, topExp f t := by
  have h0 : topExp f 0 = 1 := by
    obtain ⟨M, hM⟩ := top_real hf
    rw [topExp, fold_max_top, show topRank f 0 = rank f 0 from rfl, hM, ← EReal.coe_sub, sub_self, Ideal.exp_coe,
      Real.exp_zero, EReal.coe_one]
  rw [← h0]
  exact Finset.single_le_sum (f := topExp f) (fun t _ => topExp_nonneg f t) (Finset.mem_univ 0)

/-- The two ways to weigh such a row agree, for a floor of at most one. -/
theorem roundWeights_eq {c : EReal} (hc : c ≤ 1) (j : Fin 64) : roundWeights c f j = sortWeights f j := by
  have h1 := one_le_sum hf
  unfold roundWeights sortWeights
  rw [sum_expRow hf, max_eq_left (hc.trans h1)]
  generalize (∑ t, topExp f t) = S at h1
  have hS : S ≠ 0 := fun e => by rw [e] at h1; exact absurd h1 (not_le.mpr zero_lt_one)
  have hdiv : ∀ x : EReal, Ideal.div x S = x * S⁻¹ := fun x => by rw [Ideal.div, if_neg hS]
  simp only [hdiv, one_mul]
  obtain ⟨u, rfl⟩ := exists_rank f j
  rw [expRow_rank hf]
  have hr : ∀ t : Fin 48, topRank f t = rank f u → t.val = u.val := fun t e => congrArg Fin.val (rank_inj e)
  by_cases h : 48 ≤ u.val
  · rw [if_pos h, zero_mul]
    refine (Finset.sum_eq_zero fun t _ => ?_).symm
    rw [if_neg (fun e => by have := hr t e; omega), zero_mul]
  · rw [if_neg h]
    refine Eq.symm ((Finset.sum_eq_single (⟨u.val, by omega⟩ : Fin 48) (fun t _ ht => ?_)
      (fun h => absurd (Finset.mem_univ _) h)).trans ?_)
    · rw [if_neg (fun e => ht (Fin.ext (hr t e))), zero_mul]
    · rw [if_pos (show topRank f ⟨u.val, by omega⟩ = rank f u from rfl), one_mul, topExp, fold_max_top]
      rfl

end

end Cert.Scalars

end
-- ==== Proof.Spec.lean ====
/- The block's mathematics on rows of extended reals: what both programs compute, entry by entry. -/
module

public import proofs.«01_k».proof.Proof.Scalars

@[expose] public section

noncomputable section

namespace Cert.Spec

open Idealize.ShloMosaic

/-- A row's mean. -/
def mean (f : Fin 768 → EReal) : EReal := Ideal.div (∑ k, f k) (Ideal.ofBits .f32 0x44400000#32)

/-- A row's variance and the small constant added to it. -/
def spread (f : Fin 768 → EReal) : EReal :=
  mean (fun k => (f k - mean f) * (f k - mean f)) + Ideal.ofBits .f32 0x3727C5AC#32

/-- A row normalised, scaled by `g` and shifted by `b`. -/
def normed (f g b : Fin 768 → EReal) (j : Fin 768) : EReal :=
  (f j - mean f) * Ideal.rsqrt (spread f) * g j + b j

/-- A row times a matrix, shifted by `b`. -/
def affine {K N : ℕ} (f : Fin K → EReal) (w : Fin K → Fin N → EReal) (b : Fin N → EReal) (j : Fin N) : EReal :=
  (∑ k, f k * w k j) + b j

/-- The activation. -/
def gelu (x : EReal) : EReal :=
  Ideal.ofBits .f32 0x3F000000#32 * x * (1 + Ideal.erf (x * Ideal.ofBits .f32 0x3F3504F3#32))

/-- The pattern of `+inf` denotes the top. -/
theorem ofBits_inf : Ideal.ofBits .f32 0x7F800000#32 = ⊤ := by simp [Ideal.ofBits, Ideal.ieee]

/-- The pattern of `-inf` denotes the bottom. -/
theorem ofBits_neg_inf : Ideal.ofBits .f32 0xFF800000#32 = ⊥ := by simp [Ideal.ofBits, Ideal.ieee]

/-- The row's length as a float is a positive real. -/
theorem len_real : ∃ c : ℝ, 0 < c ∧ Ideal.ofBits .f32 0x44400000#32 = (c : EReal) := by
  refine ⟨768, by norm_num, ?_⟩
  simp [Ideal.ofBits, Ideal.ieee]
  norm_num [← EReal.coe_mul]

/-- The small constant is positive. -/
theorem eps_pos : 0 < Ideal.ofBits .f32 0x3727C5AC#32 := by
  have e : Ideal.ofBits .f32 0x3727C5AC#32 = (((10995116 : ℝ) * (2 ^ 40)⁻¹ : ℝ) : EReal) := by
    simp [Ideal.ofBits, Ideal.ieee]
  rw [e]
  exact EReal.coe_pos.mpr (by positivity)

/-- The scale of the scores is a real that is not negative. -/
theorem scale_real : ∃ c : ℝ, 0 ≤ c ∧ Ideal.ofBits .f32 0x3E000000#32 = (c : EReal) := by
  refine ⟨1/8, by norm_num, ?_⟩
  simp [Ideal.ofBits, Ideal.ieee]
  norm_num [← EReal.coe_mul]

/-- The floor of the weights' sum is at most one. -/
theorem floor_le : Ideal.ofBits .f32 0x0DA24260#32 ≤ 1 := by
  have e : Ideal.ofBits .f32 0x0DA24260#32
      = (((10633824 : ℝ) * (1 / 10633823966279326983230456482242756608) : ℝ) : EReal) := by
    simp [Ideal.ofBits, Ideal.ieee]
    norm_num
  rw [e]
  exact EReal.coe_le_coe_iff.mpr (by norm_num)

/-- The spread of a row is positive. -/
theorem spread_pos (f : Fin 768 → EReal) : 0 < spread f := by
  obtain ⟨c, hc, e⟩ := len_real
  refine lt_of_lt_of_le eps_pos ?_
  have h : 0 ≤ mean fun k => (f k - mean f) * (f k - mean f) := by
    unfold mean
    rw [e]
    exact Scalars.div_nonneg (Finset.sum_nonneg fun k _ => Scalars.mul_self_nonneg _) hc
  unfold spread
  exact le_add_of_nonneg_left h

/-- The normalisation with a division by the root. -/
theorem normed_div (f g b : Fin 768 → EReal) (j : Fin 768) :
    Ideal.div (f j - mean f) (Ideal.sqrt (spread f)) * g j + b j = normed f g b j := by
  rw [Scalars.div_sqrt_eq _ _ (spread_pos f)]; rfl

/-- The arguments of the block, as functions of their coordinates. -/
structure Args where
  /-- the rows of all images -/
  x : Fin 8192 → Fin 768 → EReal
  /-- scale of the first normalisation -/
  g1 : Fin 768 → EReal
  /-- shift of the first normalisation -/
  n1 : Fin 768 → EReal
  /-- weights of queries, keys and values -/
  qw : Fin 768 → Fin 2304 → EReal
  /-- their shift -/
  qb : Fin 2304 → EReal
  /-- the bias of a head's scores, by head, query and key -/
  bias : Fin 12 → Fin 64 → Fin 64 → EReal
  /-- weights of the projection -/
  pw : Fin 768 → Fin 768 → EReal
  /-- its shift -/
  pb : Fin 768 → EReal
  /-- scale of the second normalisation -/
  g2 : Fin 768 → EReal
  /-- shift of the second normalisation -/
  n2 : Fin 768 → EReal
  /-- weights of the hidden layer -/
  w1 : Fin 768 → Fin 3072 → EReal
  /-- its shift -/
  c1 : Fin 3072 → EReal
  /-- weights of the last layer -/
  w2 : Fin 3072 → Fin 768 → EReal
  /-- its shift -/
  c2 : Fin 768 → EReal

/-- The row in its chunk of place `r` in window order. -/
def img (r : Fin 512) : Fin 512 :=
  ⟨r.val / 256 * 256 + r.val / 8 % 8 * 32 + r.val / 64 % 4 * 8 + r.val % 8, by omega⟩

/-- The place in window order of row `r` of a chunk. -/
def place (r : Fin 512) : Fin 512 :=
  ⟨r.val / 256 * 256 + r.val / 8 % 4 * 64 + r.val / 32 % 8 * 8 + r.val % 8, by omega⟩

/-- Row `r` stands at its place. -/
theorem img_place (r : Fin 512) : img (place r) = r := by
  revert r; decide +kernel

/-- The place in its chunk of token `n` of window `w`. -/
def inWin (w : Fin 8) (n : Fin 64) : Fin 512 := ⟨w.val * 64 + n.val, by omega⟩

/-- Row `r` of chunk `k`. -/
def inChunk (k : Fin 16) (r : Fin 512) : Fin 8192 := ⟨k.val * 512 + r.val, by omega⟩

/-- Column `d` of head `h`. -/
def inHead (h : Fin 12) (d : Fin 64) : Fin 768 := ⟨h.val * 64 + d.val, by omega⟩

/-- The columns of queries, keys and values. -/
def colQ (c : Fin 768) : Fin 2304 := ⟨c.val, by omega⟩
/-- The column of the keys. -/
def colK (c : Fin 768) : Fin 2304 := ⟨768 + c.val, by omega⟩
/-- The column of the values. -/
def colV (c : Fin 768) : Fin 2304 := ⟨1536 + c.val, by omega⟩

/-- The arguments read off their arrays; `b` is the bias table gathered token pair by token pair. -/
def Args.of (x : FVec Ideal ⟨3, ![8, 1024, 768]⟩ .f32) (g1 n1 : FVec Ideal ⟨1, ![768]⟩ .f32)
    (qw : FVec Ideal ⟨2, ![768, 2304]⟩ .f32) (qb : FVec Ideal ⟨1, ![2304]⟩ .f32) (pw : FVec Ideal ⟨2, ![768, 768]⟩ .f32)
    (pb : FVec Ideal ⟨1, ![768]⟩ .f32) (b : FVec Ideal ⟨2, ![4096, 12]⟩ .f32) (g2 n2 : FVec Ideal ⟨1, ![768]⟩ .f32)
    (w1 : FVec Ideal ⟨2, ![768, 3072]⟩ .f32) (c1 : FVec Ideal ⟨1, ![3072]⟩ .f32)
    (w2 : FVec Ideal ⟨2, ![3072, 768]⟩ .f32) (c2 : FVec Ideal ⟨1, ![768]⟩ .f32) : Args where
  x R l := x (ix3 (⟨R.val / 1024, by omega⟩ : Fin 8) (⟨R.val % 1024, by omega⟩ : Fin 1024) l)
  g1 l := g1 (ix1 l)
  n1 l := n1 (ix1 l)
  qw k l := qw (ix2 k l)
  qb l := qb (ix1 l)
  bias h q j := b (ix2 (⟨q.val * 64 + j.val, by omega⟩ : Fin 4096) h)
  pw k l := pw (ix2 k l)
  pb l := pb (ix1 l)
  g2 l := g2 (ix1 l)
  n2 l := n2 (ix1 l)
  w1 k l := w1 (ix2 k l)
  c1 l := c1 (ix1 l)
  w2 k l := w2 (ix2 k l)
  c2 l := c2 (ix1 l)

namespace Args

variable (A : Args)

/-- The row of token `n` of window `w` of chunk `k`. -/
def tok (k : Fin 16) (w : Fin 8) (n : Fin 64) : Fin 768 → EReal := A.x (inChunk k (img (inWin w n)))

/-- Its query, key and value. -/
def qkv (k : Fin 16) (w : Fin 8) (n : Fin 64) : Fin 2304 → EReal := affine (normed (A.tok k w n) A.g1 A.n1) A.qw A.qb

/-- The scores of query `n` in head `h` at the keys of its window. -/
def score (k : Fin 16) (w : Fin 8) (h : Fin 12) (n j : Fin 64) : EReal :=
  (∑ d : Fin 64, A.qkv k w n (colQ (inHead h d)) * Ideal.ofBits .f32 0x3E000000#32 * A.qkv k w j (colK (inHead h d)))
    + A.bias h n j

/-- The attention of token `n` in head `h`. -/
def attn (k : Fin 16) (w : Fin 8) (n : Fin 64) (h : Fin 12) (d : Fin 64) : EReal :=
  ∑ j : Fin 64, Scalars.sortWeights (A.score k w h n) j * A.qkv k w j (colV (inHead h d))

/-- The attention of token `n`, the heads side by side. -/
def heads (k : Fin 16) (w : Fin 8) (n : Fin 64) (c : Fin 768) : EReal :=
  A.attn k w n ⟨c.val / 64, by omega⟩ ⟨c.val % 64, by omega⟩

/-- Token `n` after the attention. -/
def after (k : Fin 16) (w : Fin 8) (n : Fin 64) (l : Fin 768) : EReal :=
  A.tok k w n l + affine (A.heads k w n) A.pw A.pb l

/-- The hidden layer of token `n` before its activation. -/
def hidden (k : Fin 16) (w : Fin 8) (n : Fin 64) : Fin 3072 → EReal :=
  affine (normed (A.after k w n) A.g2 A.n2) A.w1 A.c1

/-- Token `n` after the block. -/
def out (k : Fin 16) (w : Fin 8) (n : Fin 64) (l : Fin 768) : EReal :=
  A.after k w n l + affine (fun k' => gelu (A.hidden k w n k')) A.w2 A.c2 l

/-- Every row of scores has a cut after its 48 greatest entries. -/
def Cuts : Prop := ∀ k w h n, Scalars.Cut (A.score k w h n)

end Args

/-- The chunk, window and token of row `R`. -/
def chunkOf (R : Fin 8192) : Fin 16 := ⟨R.val / 512, by omega⟩
/-- The window in its chunk of row `R`. -/
def winOf (R : Fin 8192) : Fin 8 := ⟨R.val % 512 / 256 * 4 + R.val / 8 % 4, by omega⟩
/-- The token in its window of row `R`. -/
def tokOf (R : Fin 8192) : Fin 64 := ⟨R.val / 32 % 8 * 8 + R.val % 8, by omega⟩

end Cert.Spec

end
-- ==== Proof.RefRows.lean ====
/- The reference's terms over the extended reals, read at an index. -/
module

public import proofs.«01_k».proof.Proof.Spec
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable (V0 : Valuation τ sig (Elt Ideal))

/-- The rows' means. -/
def means (x : FVec Ideal S8x1024x768 .f32) : FVec Ideal S8x1024x1 .f32 :=
  Host.divf (broadcastInDim S8x1024x1 ![0, 1] bcast_S8x1024_S8x1024x1_0_1
    (Host.reduceAdd x (constant S_ .f32 0x00000000#32) reducesTo_S8x1024x768_S8x1024_d2 h_S_))
    (broadcastInDim S8x1024x1 ![] bcast_S_S8x1024x1 (constant S_ .f32 0x44400000#32))

/-- The rows less their means. -/
def devs (x : FVec Ideal S8x1024x768 .f32) : FVec Ideal S8x1024x768 .f32 :=
  subf x (broadcastInDim S8x1024x768 ![0, 1, 2] bcast_S8x1024x1_S8x1024x768_0_1_2 (means x))

/-- A vector along every row. -/
def along (g : FVec Ideal S768 .f32) : FVec Ideal S8x1024x768 .f32 :=
  broadcastInDim S8x1024x768 ![0, 1, 2] bcast_S1x1x768_S8x1024x768_0_1_2 (broadcastInDim S1x1x768 ![2] bcast_S768_S1x1x768_2 g)

/-- The number of columns that the variance divides by: none of them is left out. -/
def count : FVec Ideal S_ .f32 :=
  subf (constant S_ .f32 0x44400000#32) (sitofp .f32 (constantI S_ 32 0#32))

/-- The rows' variances, kept where the number of columns is positive. -/
def vars (x : FVec Ideal S8x1024x768 .f32) : FVec Ideal S8x1024x1 .f32 :=
  select (broadcastInDim S8x1024x1 ![] bcast_S_S8x1024x1 (cmpf .ogt count (constant S_ .f32 0x00000000#32)))
    (Host.divf (broadcastInDim S8x1024x1 ![0, 1] bcast_S8x1024_S8x1024x1_0_1
      (Host.reduceAdd (mulf (devs x) (devs x)) (constant S_ .f32 0x00000000#32) reducesTo_S8x1024x768_S8x1024_d2 h_S_))
      (broadcastInDim S8x1024x1 ![] bcast_S_S8x1024x1 count))
    (broadcastInDim S8x1024x1 ![] bcast_S_S8x1024x1 (id (constant S_ .f32 0x7FC00000#32)))

/-- The rows normalised, scaled and shifted. -/
def norms (x : FVec Ideal S8x1024x768 .f32) (g b : FVec Ideal S768 .f32) : FVec Ideal S8x1024x768 .f32 :=
  addf (mulf (Host.divf (devs x) (broadcastInDim S8x1024x768 ![0, 1, 2] bcast_S8x1024x1_S8x1024x768_0_1_2
    (Host.sqrt (addf (vars x)
      (broadcastInDim S8x1024x1 ![] bcast_S_S8x1024x1 (constant S_ .f32 0x3727C5AC#32)))))) (along g)) (along b)

/-- A row's mean. -/
theorem means_apply (x : FVec Ideal S8x1024x768 .f32) (b : Fin 8) (l : Fin 1024) :
    means x (ix3 b l (0 : Fin 1)) = Spec.mean fun j => x (ix3 b l j) := by
  pointwise [means, Spec.mean]

/-- The number of columns is the literal that the means divide by. -/
theorem count_eq : count = constant (F := Ideal) S_ .f32 0x44400000#32 := by
  funext i
  have h : (FloatOps.sitofp .f32 (0#32 : BitVec 32) : Ideal .f32) = (0 : EReal) := by
    simp [FloatOps.sitofp]
  simp [count, subf, sitofp, constantI, constant, h]

/-- The number of columns is positive. -/
theorem count_pos : cmpf .ogt count (constant (F := Ideal) S_ .f32 0x00000000#32) = fun _ => 1#1 := by
  rw [count_eq]
  obtain ⟨c, hc, e⟩ := Spec.len_real
  have h : Ideal.cmp .ogt (Ideal.ofBits .f32 0x44400000#32) (Ideal.ofBits .f32 0x00000000#32) = 1#1 := by
    rw [e]
    simp [Ideal.cmp, Ideal.ofBits, Ideal.ieee, hc]
  exact funext fun _ => h

/-- The guarded variances are the means of the squared deviations. -/
theorem vars_eq (x : FVec Ideal S8x1024x768 .f32) : vars x = means (mulf (devs x) (devs x)) := by
  unfold vars means
  rw [count_pos, count_eq]
  funext i
  rfl

/-- An entry less its row's mean. -/
theorem devs_apply (x : FVec Ideal S8x1024x768 .f32) (b : Fin 8) (l : Fin 1024) (j : Fin 768) :
    devs x (ix3 b l j) = x (ix3 b l j) - Spec.mean fun j => x (ix3 b l j) := by
  have h := means_apply x b l
  unfold devs
  generalize means x = a at h ⊢
  pointwise [h]

/-- A normalised entry is the specification's. -/
theorem norms_apply (x : FVec Ideal S8x1024x768 .f32) (g b : FVec Ideal S768 .f32) (i : Fin 8) (l : Fin 1024) (j : Fin 768) :
    norms x g b (ix3 i l j) = Spec.normed (fun j => x (ix3 i l j)) (fun j => g (ix1 j)) (fun j => b (ix1 j)) j := by
  have h : means (mulf (devs x) (devs x)) (ix3 i l (0 : Fin 1))
      = Spec.mean fun j => (x (ix3 i l j) - Spec.mean fun j => x (ix3 i l j)) * (x (ix3 i l j) - Spec.mean fun j => x (ix3 i l j)) := by
    rw [means_apply]
    congr 1
    funext j
    pointwise [devs_apply x i l j]
  have h' := devs_apply x i l j
  rw [← Spec.normed_div]
  unfold norms
  rw [vars_eq]
  generalize means _ = a at h ⊢
  generalize devs x = d at h' ⊢
  pointwise [h, h', along, Spec.spread]

/-- The rows cut into windows. -/
def windows (x : FVec Ideal S8x1024x768 .f32) : FVec Ideal S128x64x768 .f32 :=
  shapeCast _ (transpose S8x4x4x8x8x768 [0, 1, 3, 2, 4, 5] (shapeCast _ (shapeCast _ x shapeCasts_S8x1024x768_S8x32x32x768)
    shapeCasts_S8x32x32x768_S8x4x8x4x8x768) transposes_S8x4x8x4x8x768_S8x4x4x8x8x768_0_1_3_2_4_5)
    shapeCasts_S8x4x4x8x8x768_S128x64x768

/-- Window `w` of chunk `k`, among all windows. -/
def win (k : Fin 16) (w : Fin 8) : Fin 128 := ⟨k.val * 8 + w.val, by omega⟩

/-- Where a window's token stands in its image. -/
theorem win_row : ∀ (k : Fin 16) (w : Fin 8) (n : Fin 64), (win k w).val / 16 = (Spec.inChunk k (Spec.img (Spec.inWin w n))).val / 1024
    ∧ (win k w).val / 4 % 4 * 256 + n.val / 8 * 32 + (win k w).val % 4 * 8 + n.val % 8
      = (Spec.inChunk k (Spec.img (Spec.inWin w n))).val % 1024 := by
  decide +kernel

/-- The row of a window, by its number in the image. -/
theorem windows_at (x : FVec Ideal S8x1024x768 .f32) (W : Fin 128) (n : Fin 64) (j : Fin 768) :
    windows x (ix3 W n j) = x (ix3 (⟨W.val / 16, by omega⟩ : Fin 8)
      (⟨W.val / 4 % 4 * 256 + n.val / 8 * 32 + W.val % 4 * 8 + n.val % 8, by omega⟩ : Fin 1024) j) := by
  pointwise [windows]

/-- The row of chunk `k`'s window `w` and token `n`. -/
theorem windows_apply (x : FVec Ideal S8x1024x768 .f32) (k : Fin 16) (w : Fin 8) (n : Fin 64) (j : Fin 768) :
    windows x (ix3 (win k w) n j)
      = x (ix3 (⟨(Spec.inChunk k (Spec.img (Spec.inWin w n))).val / 1024, by omega⟩ : Fin 8)
          (⟨(Spec.inChunk k (Spec.img (Spec.inWin w n))).val % 1024, by omega⟩ : Fin 1024) j) := by
  rw [windows_at]
  exact congrArg₂ (fun (a : Fin 8) (b : Fin 1024) => x (ix3 a b j)) (Fin.ext (win_row k w n).1) (Fin.ext (win_row k w n).2)

/-- Queries, keys and values by window and token. -/
def qkvs (x : FVec Ideal S128x64x768 .f32) (w : FVec Ideal S768x2304 .f32) (b : FVec Ideal S2304 .f32) :
    FVec Ideal S3x128x12x64x64 .f32 :=
  transpose S3x128x12x64x64 [2, 0, 3, 1, 4] (shapeCast _ (addf
    (Host.dotGeneral (φ₁ := .f32) (φ₂ := .f32) dot_S128x64x768_S768x2304_S128x64x2304_2_0_01_1_n_n none x w)
    (broadcastInDim S128x64x2304 ![0, 1, 2] bcast_S1x1x2304_S128x64x2304_0_1_2
      (broadcastInDim S1x1x2304 ![2] bcast_S2304_S1x1x2304_2 b))) shapeCasts_S128x64x2304_S128x64x3x12x64)
    transposes_S128x64x3x12x64_S3x128x12x64x64_2_0_3_1_4

/-- The program's projections are `qkvs` of the normalised windows. -/
theorem v27_eq : res_main_v27 V0 = qkvs (windows (norms (V0 (Proc.devRef .tc main_arg0)) (V0 (Proc.devRef .tc main_arg1))
    (V0 (Proc.devRef .tc main_arg2)))) (V0 (Proc.devRef .tc main_arg3)) (V0 (Proc.devRef .tc main_arg4)) := by
  unfold res_main_v27 res_main_call0_v5 res_main_call0_v8
  rfl

/-- An entry of the projections is one column's affine function of the token's row. -/
theorem qkvs_apply (x : FVec Ideal S128x64x768 .f32) (w : FVec Ideal S768x2304 .f32) (b : FVec Ideal S2304 .f32)
    (s : Fin 3) (W : Fin 128) (h : Fin 12) (n d : Fin 64) :
    qkvs x w b (ix5 s W h n d) = Spec.affine (fun k => x (ix3 W n k)) (fun k j => w (ix2 k j)) (fun j => b (ix1 j))
      ⟨s.val * 768 + h.val * 64 + d.val, by omega⟩ := by
  pointwise [qkvs, Spec.affine, dot_S128x64x768_S768x2304_S128x64x2304_2_0_01_1_n_n]

end Cert.ReferenceIdeal.Value

end
-- ==== Proof.RefAttention.lean ====
/- The reference's attention over the extended reals, read at an index: scores, the sorted selection, the weights put back
   at their keys. -/
module

public import proofs.«01_k».proof.Proof.RefRows

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable (V0 : Valuation τ sig (Elt Ideal))

/-- The number of the token pair at every place, the square table read out in rows. -/
def pairs : IVec S4096 32 :=
  shapeCast _ (fun i => lit0 (S64x64.rowMajor i)) shapeCasts_S64x64_S4096

/-- Read out in rows, the table is the list of its words. -/
theorem pairs_eq : pairs = fun i => lit0 (S4096.rowMajor i) := by
  funext i
  unfold pairs shapeCast Shape.reshapeEquiv
  simp
  rfl

/-- The bias table's rows, gathered token pair by token pair. -/
def gathered (x : FVec Ideal S225x12 .f32) : FVec Ideal S4096x12 .f32 :=
  Host.gather gather_S225x12_S4096x1_S4096x12_1_0_n_n_0_1_112 x (broadcastInDim S4096x1 ![0] bcast_S4096_S4096x1_0
    (select (cmpi .slt pairs (broadcastInDim S4096 ![] bcast_S_S4096 (constantI S_ 32 0#32)))
      (addi pairs (broadcastInDim S4096 ![] bcast_S_S4096 (constantI S_ 32 225#32)))
      pairs))

/-- The scores of queries at keys, by window and head. -/
def scores (a : FVec Ideal S3x128x12x64x64 .f32) (G : FVec Ideal S4096x12 .f32) : FVec Ideal S128x12x64x64 .f32 :=
  addf (Host.dotGeneral (φ₁ := .f32) (φ₂ := .f32) dot_S128x12x64x64_S128x12x64x64_S128x12x64x64_3_2_2_3_01_01 none
    (mulf (shapeCast _ (extractStridedSlice S1x128x12x64x64 ![0, 0, 0, 0, 0] a slices_S3x128x12x64x64_S1x128x12x64x64_0_0_0_0_0)
      shapeCasts_S1x128x12x64x64_S128x12x64x64)
      (broadcastInDim S128x12x64x64 ![] bcast_S_S128x12x64x64 (constant S_ .f32 0x3E000000#32)))
    (transpose S128x12x64x64 [0, 1, 3, 2] (shapeCast _ (extractStridedSlice S1x128x12x64x64 ![1, 0, 0, 0, 0] a
      slices_S3x128x12x64x64_S1x128x12x64x64_1_0_0_0_0) shapeCasts_S1x128x12x64x64_S128x12x64x64)
      transposes_S128x12x64x64_S128x12x64x64_0_1_3_2))
    (broadcastInDim S128x12x64x64 ![0, 1, 2, 3] bcast_S1x12x64x64_S128x12x64x64_0_1_2_3
      (broadcastInDim S1x12x64x64 ![1, 2, 3] bcast_S12x64x64_S1x12x64x64_1_2_3 (transpose S12x64x64 [2, 0, 1]
        (shapeCast _ G shapeCasts_S4096x12_S64x64x12) transposes_S64x64x12_S12x64x64_2_0_1)))

/-- The program's scores are `scores` of its projections and gathered biases. -/
theorem v50_eq : res_main_v50 V0 = scores (res_main_v27 V0) (gathered (V0 (Proc.devRef .tc main_arg7))) := by
  unfold res_main_v50 res_main_v38
  rfl

/-- A score is the dot of the scaled query and the key, and the pair's bias. -/
theorem scores_apply (a : FVec Ideal S3x128x12x64x64 .f32) (G : FVec Ideal S4096x12 .f32) (W : Fin 128) (h : Fin 12)
    (n j : Fin 64) :
    scores a G (ix4 W h n j)
      = (∑ d : Fin 64, a (ix5 (0 : Fin 3) W h n d) * Ideal.ofBits .f32 0x3E000000#32 * a (ix5 (1 : Fin 3) W h j d))
        + G (ix2 (⟨n.val * 64 + j.val, by omega⟩ : Fin 4096) h) := by
  pointwise [scores, dot_S128x12x64x64_S128x12x64x64_S128x12x64x64_3_2_2_3_01_01]

/-- A query's row of scores. -/
def rowOf (s : FVec Ideal S128x12x64x64 .f32) (W : Fin 128) (h : Fin 12) (n : Fin 64) : Fin 64 → EReal := fun j => s (ix4 W h n j)

/-- The 48 largest scores of each query, in descending order. -/
def largest (s : FVec Ideal S128x12x64x64 .f32) : FVec Ideal S128x12x64x48 .f32 :=
  (Host.topK S128x12x64x48 3 (FloatOps.cmpfTotal .gt) s sliceFits_S128x12x64x64_S128x12x64x48).1

/-- Their keys. -/
def keys (s : FVec Ideal S128x12x64x64 .f32) : IVec S128x12x64x48 32 :=
  (Host.topK S128x12x64x48 3 (FloatOps.cmpfTotal (F := Ideal) (φ := .f32) .gt) s sliceFits_S128x12x64x64_S128x12x64x48).2

/-- Replacing the last coordinate. -/
theorem ix4_along (W : Fin 128) (h : Fin 12) (n : Fin 64) (t k : Fin 64) :
    (ix4 W h n t : S128x12x64x64.Idx).along 3 k = ix4 W h n k := by
  funext a
  fin_cases a <;> rfl

/-- A descending sort of every row, with the keys' numbers. -/
def sorted (s : FVec Ideal S128x12x64x64 .f32) (j : S128x12x64x64.Idx) : Fin 64 :=
  sortedFrom (fun k k' => FloatOps.cmpfTotal (F := Ideal) (φ := .f32) .gt (s (j.along 3 k)) (s (j.along 3 k')) == 1#1) (j 3)

/-- Place `t` of the sort has the key of rank `t`. -/
theorem sorted_apply (s : FVec Ideal S128x12x64x64 .f32) (W : Fin 128) (h : Fin 12) (n t : Fin 64) :
    sorted s (ix4 W h n t) = Scalars.rank (rowOf s W h n) t := by
  have e : (fun k k' : Fin 64 => FloatOps.cmpfTotal (F := Ideal) (φ := .f32) .gt
      (s ((ix4 W h n t : S128x12x64x64.Idx).along 3 k)) (s ((ix4 W h n t : S128x12x64x64.Idx).along 3 k')) == 1#1)
      = Scalars.before (rowOf s W h n) := by
    funext k k'
    rw [ix4_along, ix4_along]
    rfl
  exact congrArg (fun b => sortedFrom b t) e

/-- The slice of the first 48 entries. -/
theorem cut_apply {α : Type} (f : S128x12x64x64.Idx → α) (W : Fin 128) (h : Fin 12) (n : Fin 64) (t : Fin 48) :
    extractStridedSlice S128x12x64x48 (fun _ => 0) f sliceFits_S128x12x64x64_S128x12x64x48 (ix4 W h n t)
      = f (ix4 W h n (⟨t.val, by omega⟩ : Fin 64)) := by
  refine congrArg f ?_
  funext a
  fin_cases a <;> exact Fin.ext (Nat.zero_add _)

/-- Entry `t` of the 48 greatest is the row's entry of rank `t`. -/
theorem largest_apply (s : FVec Ideal S128x12x64x64 .f32) (W : Fin 128) (h : Fin 12) (n : Fin 64) (t : Fin 48) :
    largest s (ix4 W h n t) = rowOf s W h n (Scalars.topRank (rowOf s W h n) t) := by
  have e := cut_apply (fun j => s (j.along 3 (sorted s j))) W h n t
  rw [sorted_apply, ix4_along] at e
  exact e

/-- Key `t` of the 48 greatest is the key of rank `t`. -/
theorem keys_apply (s : FVec Ideal S128x12x64x64 .f32) (W : Fin 128) (h : Fin 12) (n : Fin 64) (t : Fin 48) :
    keys s (ix4 W h n t) = BitVec.ofNat 32 (Scalars.topRank (rowOf s W h n) t).val := by
  have e := cut_apply (fun j => iotaInDim S128x12x64x64 32 3 (j.along 3 (sorted s j))) W h n t
  rw [sorted_apply, ix4_along] at e
  exact e

end Cert.ReferenceIdeal.Value

end
-- ==== Proof.RefScores.lean ====
/- The scores of the reference are those of the specification. -/
module

public import proofs.«01_k».proof.Proof.RefAttention

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable (x : FVec Ideal S8x1024x768 .f32) (g1 n1 : FVec Ideal S768 .f32) (qw : FVec Ideal S768x2304 .f32)
  (qb : FVec Ideal S2304 .f32) (pw : FVec Ideal S768x768 .f32) (pb : FVec Ideal S768 .f32) (G : FVec Ideal S4096x12 .f32)
  (g2 n2 : FVec Ideal S768 .f32) (w1 : FVec Ideal S768x3072 .f32) (c1 : FVec Ideal S3072 .f32)
  (w2 : FVec Ideal S3072x768 .f32) (c2 : FVec Ideal S768 .f32)

/-- Queries, keys and values of the specification. -/
theorem qkvs_spec (s : Fin 3) (k : Fin 16) (w : Fin 8) (h : Fin 12) (n d : Fin 64) :
    qkvs (windows (norms x g1 n1)) qw qb (ix5 s (win k w) h n d)
      = (Spec.Args.of x g1 n1 qw qb pw pb G g2 n2 w1 c1 w2 c2).qkv k w n ⟨s.val * 768 + h.val * 64 + d.val, by omega⟩ := by
  rw [qkvs_apply]
  simp only [windows_apply, norms_apply]
  rfl

/-- The reference's queries are the specification's. -/
theorem qkvs_q (k : Fin 16) (w : Fin 8) (h : Fin 12) (n d : Fin 64) :
    qkvs (windows (norms x g1 n1)) qw qb (ix5 (0 : Fin 3) (win k w) h n d)
      = (Spec.Args.of x g1 n1 qw qb pw pb G g2 n2 w1 c1 w2 c2).qkv k w n (Spec.colQ (Spec.inHead h d)) := by
  rw [qkvs_spec x g1 n1 qw qb pw pb G g2 n2 w1 c1 w2 c2]
  refine congrArg _ (Fin.ext ?_)
  show 0 * 768 + h.val * 64 + d.val = h.val * 64 + d.val
  omega

/-- The reference's keys are the specification's. -/
theorem qkvs_k (k : Fin 16) (w : Fin 8) (h : Fin 12) (n d : Fin 64) :
    qkvs (windows (norms x g1 n1)) qw qb (ix5 (1 : Fin 3) (win k w) h n d)
      = (Spec.Args.of x g1 n1 qw qb pw pb G g2 n2 w1 c1 w2 c2).qkv k w n (Spec.colK (Spec.inHead h d)) := by
  rw [qkvs_spec x g1 n1 qw qb pw pb G g2 n2 w1 c1 w2 c2]
  refine congrArg _ (Fin.ext ?_)
  show 1 * 768 + h.val * 64 + d.val = 768 + (h.val * 64 + d.val)
  omega

/-- The reference's values are the specification's. -/
theorem qkvs_v (k : Fin 16) (w : Fin 8) (h : Fin 12) (n d : Fin 64) :
    qkvs (windows (norms x g1 n1)) qw qb (ix5 (2 : Fin 3) (win k w) h n d)
      = (Spec.Args.of x g1 n1 qw qb pw pb G g2 n2 w1 c1 w2 c2).qkv k w n (Spec.colV (Spec.inHead h d)) := by
  rw [qkvs_spec x g1 n1 qw qb pw pb G g2 n2 w1 c1 w2 c2]
  refine congrArg _ (Fin.ext ?_)
  show 2 * 768 + h.val * 64 + d.val = 1536 + (h.val * 64 + d.val)
  omega

/-- A query's row of scores is the specification's. -/
theorem scores_spec (k : Fin 16) (w : Fin 8) (h : Fin 12) (n : Fin 64) :
    rowOf (scores (qkvs (windows (norms x g1 n1)) qw qb) G) (win k w) h n
      = (Spec.Args.of x g1 n1 qw qb pw pb G g2 n2 w1 c1 w2 c2).score k w h n := by
  funext j
  unfold rowOf
  rw [scores_apply]
  simp only [qkvs_q x g1 n1 qw qb pw pb G g2 n2 w1 c1 w2 c2, qkvs_k x g1 n1 qw qb pw pb G g2 n2 w1 c1 w2 c2]
  rfl

/-- Every window is one of a chunk's. -/
theorem win_of (W : Fin 128) : ∃ k w, W = win k w :=
  ⟨⟨W.val / 8, by omega⟩, ⟨W.val % 8, by omega⟩, Fin.ext (by show W.val = W.val / 8 * 8 + W.val % 8; omega)⟩

end Cert.ReferenceIdeal.Value

end
-- ==== Proof.RefWeights.lean ====
/- The reference's weights and what follows them, read at an index. -/
module

public import proofs.«01_k».proof.Proof.RefAttention

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable (V0 : Valuation τ sig (Elt Ideal))

/-- The greatest of the largest scores of a query. -/
def greatest (v : FVec Ideal S128x12x64x48 .f32) : FVec Ideal S128x12x64 .f32 :=
  Host.reduce FloatOps.maximumf v (constant S_ .f32 0xFF800000#32) reducesTo_S128x12x64x48_S128x12x64_d3 h_S_

/-- Exponentials of scores less an amount for their query. -/
def expLess (v : FVec Ideal S128x12x64x48 .f32) (r : FVec Ideal S128x12x64 .f32) : FVec Ideal S128x12x64x48 .f32 :=
  Host.exp (subf v (broadcastInDim S128x12x64x48 ![0, 1, 2, 3] bcast_S128x12x64x1_S128x12x64x48_0_1_2_3
    (broadcastInDim S128x12x64x1 ![0, 1, 2] bcast_S128x12x64_S128x12x64x1_0_1_2
      (maximumf (broadcastInDim S128x12x64 ![] bcast_S_S128x12x64 (constant S_ .f32 0xFF800000#32)) r))))

/-- Exponentials of the largest scores less the greatest of them. -/
def exps (v : FVec Ideal S128x12x64x48 .f32) : FVec Ideal S128x12x64x48 .f32 := expLess v (greatest v)

/-- The exponentials over their sum. -/
def shares (e : FVec Ideal S128x12x64x48 .f32) : FVec Ideal S128x12x64x48 .f32 :=
  Host.divf e (broadcastInDim S128x12x64x48 ![0, 1, 2, 3] bcast_S128x12x64x1_S128x12x64x48_0_1_2_3
    (broadcastInDim S128x12x64x1 ![0, 1, 2] bcast_S128x12x64_S128x12x64x1_0_1_2
      (Host.reduceAdd e (constant S_ .f32 0x00000000#32) reducesTo_S128x12x64x48_S128x12x64_d3 h_S_)))

/-- Shares put back at their keys. -/
def putBack (k : IVec S128x12x64x48 32) (p : FVec Ideal S128x12x64x48 .f32) : FVec Ideal S128x12x64x64 .f32 :=
  Host.reduceAdd (mulf (uitofp .f32 (cmpi .eq
    (broadcastInDim S128x12x64x48x64 ![0, 1, 2, 3, 4] bcast_S128x12x64x48x1_S128x12x64x48x64_0_1_2_3_4
      (broadcastInDim S128x12x64x48x1 ![0, 1, 2, 3] bcast_S128x12x64x48_S128x12x64x48x1_0_1_2_3 k))
    (broadcastInDim S128x12x64x48x64 ![0, 1, 2, 3, 4] bcast_S1x1x1x1x64_S128x12x64x48x64_0_1_2_3_4 (iotaInDim S1x1x1x1x64 32 4))))
    (broadcastInDim S128x12x64x48x64 ![0, 1, 2, 3, 4] bcast_S128x12x64x48x1_S128x12x64x48x64_0_1_2_3_4
      (broadcastInDim S128x12x64x48x1 ![0, 1, 2, 3] bcast_S128x12x64x48_S128x12x64x48x1_0_1_2_3 p)))
    (constant S_ .f32 0x00000000#32) reducesTo_S128x12x64x48x64_S128x12x64x64_d3 h_S_

/-- The program's greatest entries are `largest` of its scores. -/
theorem values_eq : res_main_values V0 = largest (res_main_v50 V0) := by
  unfold res_main_values largest
  rfl

/-- The program's exponentials are `exps` of its greatest entries. -/
theorem v57_values : res_main_v57 V0 = exps (res_main_values V0) := by
  unfold res_main_v57 exps expLess greatest
  rfl

/-- The greatest of the kept entries of a row. -/
theorem greatest_apply (v : FVec Ideal S128x12x64x48 .f32) (W : Fin 128) (h : Fin 12) (n : Fin 64) :
    greatest v (ix3 W h n)
      = (Finset.univ : Finset (Fin 48)).fold max (Ideal.ofBits .f32 0xFF800000#32) fun t => v (ix4 W h n t) := by
  pointwise [greatest]

/-- The exponential of an entry less the row's greatest. -/
theorem expLess_apply (v : FVec Ideal S128x12x64x48 .f32) (r : FVec Ideal S128x12x64 .f32) (W : Fin 128) (h : Fin 12)
    (n : Fin 64) (t : Fin 48) :
    expLess v r (ix4 W h n t) = Ideal.exp (v (ix4 W h n t) - max (Ideal.ofBits .f32 0xFF800000#32) (r (ix3 W h n))) := by
  pointwise [expLess]

/-- The exponentials of the kept entries of a sorted row. -/
theorem exps_apply (v : FVec Ideal S128x12x64x48 .f32) (f : Fin 64 → EReal) (W : Fin 128) (h : Fin 12) (n : Fin 64)
    (e : ∀ t, v (ix4 W h n t) = f (Scalars.topRank f t)) (t : Fin 48) : exps v (ix4 W h n t) = Scalars.topExp f t := by
  rw [exps, expLess_apply, greatest_apply, Scalars.topExp, Spec.ofBits_neg_inf]
  simp only [e]

/-- An exponential's share of the row's sum. -/
theorem shares_apply (v : FVec Ideal S128x12x64x48 .f32) (f : Fin 64 → EReal) (W : Fin 128) (h : Fin 12) (n : Fin 64)
    (e : ∀ t, v (ix4 W h n t) = Scalars.topExp f t) (t : Fin 48) :
    shares v (ix4 W h n t) = Ideal.div (Scalars.topExp f t) (∑ t, Scalars.topExp f t) := by
  pointwise [shares, e]

/-- The exponentials of the reference are those of a descending sort. -/
theorem v57_apply (W : Fin 128) (h : Fin 12) (n : Fin 64) (t : Fin 48) :
    res_main_v57 V0 (ix4 W h n t) = Scalars.topExp (rowOf (res_main_v50 V0) W h n) t :=
  (congrFun (v57_values V0) _).trans (exps_apply _ _ W h n
    (fun t => (congrFun (values_eq V0) _).trans (largest_apply (res_main_v50 V0) W h n t)) t)

/-- A comparison for equality, as a float. -/
theorem indicator (a b : BitVec 32) :
    (FloatOps.uitofp (F := Ideal) .f32 (IntOp.cmpi .eq a b) : EReal) = if a = b then 1 else 0 := by
  by_cases h : a = b
  · subst h; simp [IntOp.cmpi, FloatOps.uitofp]
  · simp [IntOp.cmpi, FloatOps.uitofp, h]

/-- The weight put back at key `j` is the sum of the shares whose key is `j`. -/
theorem putBack_apply (k : IVec S128x12x64x48 32) (p : FVec Ideal S128x12x64x48 .f32) (W : Fin 128) (h : Fin 12) (n j : Fin 64) :
    putBack k p (ix4 W h n j)
      = ∑ t : Fin 48, (if k (ix4 W h n t) = BitVec.ofNat 32 j.val then 1 else 0) * p (ix4 W h n t) := by
  pointwise [putBack, indicator]

/-- The key of rank `t` is `j` exactly where `j`'s number is the key's word. -/
theorem key_iff (f : Fin 64 → EReal) (t : Fin 48) (j : Fin 64) :
    BitVec.ofNat 32 (Scalars.topRank f t).val = BitVec.ofNat 32 j.val ↔ Scalars.topRank f t = j := by
  have hj := j.isLt
  have ht := (Scalars.topRank f t).isLt
  rw [← BitVec.toNat_inj, BitVec.toNat_ofNat, BitVec.toNat_ofNat, Fin.ext_iff, Nat.mod_eq_of_lt (by omega), Nat.mod_eq_of_lt (by omega)]

/-- Shares put back at the keys of a descending sort are its weights. -/
theorem weights_apply (k : IVec S128x12x64x48 32) (p : FVec Ideal S128x12x64x48 .f32) (f : Fin 64 → EReal) (W : Fin 128)
    (h : Fin 12) (n j : Fin 64) (hk : ∀ t, k (ix4 W h n t) = BitVec.ofNat 32 (Scalars.topRank f t).val)
    (hp : ∀ t, p (ix4 W h n t) = Ideal.div (Scalars.topExp f t) (∑ t, Scalars.topExp f t)) :
    putBack k p (ix4 W h n j) = Scalars.sortWeights f j := by
  rw [putBack_apply]
  simp only [hk, hp, key_iff]
  rfl

/-- The attention's result, projected, by window and token. -/
def projected (wgt : FVec Ideal S128x12x64x64 .f32) (a : FVec Ideal S3x128x12x64x64 .f32) (w : FVec Ideal S768x768 .f32)
    (b : FVec Ideal S768 .f32) : FVec Ideal S128x64x768 .f32 :=
  addf (Host.dotGeneral (φ₁ := .f32) (φ₂ := .f32) dot_S128x64x768_S768x768_S128x64x768_2_0_01_1_n_n none
    (shapeCast _ (transpose S128x64x12x64 [0, 2, 1, 3]
      (Host.dotGeneral (φ₁ := .f32) (φ₂ := .f32) (so := S128x12x64x64) dot_S128x12x64x64_S128x12x64x64_S128x12x64x64_3_2_2_3_01_01 none wgt
        (shapeCast _ (extractStridedSlice S1x128x12x64x64 ![2, 0, 0, 0, 0] a slices_S3x128x12x64x64_S1x128x12x64x64_2_0_0_0_0)
          shapeCasts_S1x128x12x64x64_S128x12x64x64)) transposes_S128x12x64x64_S128x64x12x64_0_2_1_3)
      shapeCasts_S128x64x12x64_S128x64x768) w)
    (broadcastInDim S128x64x768 ![0, 1, 2] bcast_S1x1x768_S128x64x768_0_1_2 (broadcastInDim S1x1x768 ![2] bcast_S768_S1x1x768_2 b))

/-- An entry of the projected attention. -/
theorem projected_apply (wgt : FVec Ideal S128x12x64x64 .f32) (a : FVec Ideal S3x128x12x64x64 .f32)
    (w : FVec Ideal S768x768 .f32) (b : FVec Ideal S768 .f32) (W : Fin 128) (n : Fin 64) (l : Fin 768) :
    projected wgt a w b (ix3 W n l)
      = Spec.affine (fun c => ∑ j : Fin 64, wgt (ix4 W (⟨c.val / 64, by omega⟩ : Fin 12) n j)
          * a (ix5 (2 : Fin 3) W (⟨c.val / 64, by omega⟩ : Fin 12) j (⟨c.val % 64, by omega⟩ : Fin 64)))
        (fun k j => w (ix2 k j)) (fun j => b (ix1 j)) l := by
  pointwise [projected, Spec.affine, dot_S128x64x768_S768x768_S128x64x768_2_0_01_1_n_n,
    dot_S128x12x64x64_S128x12x64x64_S128x12x64x64_3_2_2_3_01_01]

/-- Windows put back in their images. -/
def images (x : FVec Ideal S128x64x768 .f32) : FVec Ideal S8x1024x768 .f32 :=
  shapeCast _ (transpose S8x4x8x4x8x768 [0, 1, 3, 2, 4, 5] (shapeCast _ x shapeCasts_S128x64x768_S8x4x4x8x8x768)
    transposes_S8x4x4x8x8x768_S8x4x8x4x8x768_0_1_3_2_4_5) shapeCasts_S8x4x8x4x8x768_S8x1024x768

/-- Where a row stands among the windows. -/
theorem row_win : ∀ R : Fin 8192, R.val / 1024 * 16 + R.val % 1024 / 256 * 4 + R.val % 1024 / 8 % 4 = (win (Spec.chunkOf R) (Spec.winOf R)).val
    ∧ R.val % 1024 / 32 % 8 * 8 + R.val % 1024 % 8 = (Spec.tokOf R).val := by
  decide +kernel

/-- The row of the image, by its window. -/
theorem images_at (x : FVec Ideal S128x64x768 .f32) (b : Fin 8) (l : Fin 1024) (j : Fin 768) :
    images x (ix3 b l j) = x (ix3 (⟨b.val * 16 + l.val / 256 * 4 + l.val / 8 % 4, by omega⟩ : Fin 128)
      (⟨l.val / 32 % 8 * 8 + l.val % 8, by omega⟩ : Fin 64) j) := by
  pointwise [images]

/-- Row `R` of the images is its token's row of its window. -/
theorem images_apply (x : FVec Ideal S128x64x768 .f32) (R : Fin 8192) (j : Fin 768) :
    images x (ix3 (⟨R.val / 1024, by omega⟩ : Fin 8) (⟨R.val % 1024, by omega⟩ : Fin 1024) j)
      = x (ix3 (win (Spec.chunkOf R) (Spec.winOf R)) (Spec.tokOf R) j) := by
  rw [images_at]
  exact congrArg₂ (fun (a : Fin 128) (b : Fin 64) => x (ix3 a b j)) (Fin.ext (row_win R).1) (Fin.ext (row_win R).2)

/-- The program's rows after the attention are the arguments' rows and the projected attention. -/
theorem v77_eq : res_main_v77 V0 = addf (V0 (Proc.devRef .tc main_arg0)) (images (projected
    (putBack (keys (res_main_v50 V0)) (shares (res_main_v57 V0))) (res_main_v27 V0)
    (V0 (Proc.devRef .tc main_arg5)) (V0 (Proc.devRef .tc main_arg6)))) := by
  unfold res_main_v77 images projected putBack keys shares
  rfl

/-- The hidden layer before its activation. -/
def hid (x : FVec Ideal S8x1024x768 .f32) (w : FVec Ideal S768x3072 .f32) (b : FVec Ideal S3072 .f32) : FVec Ideal S8x1024x3072 .f32 :=
  addf (Host.dotGeneral (φ₁ := .f32) (φ₂ := .f32) dot_S8x1024x768_S768x3072_S8x1024x3072_2_0_01_1_n_n none x w)
    (broadcastInDim S8x1024x3072 ![0, 1, 2] bcast_S1x1x3072_S8x1024x3072_0_1_2 (broadcastInDim S1x1x3072 ![2] bcast_S3072_S1x1x3072_2 b))

/-- The program's hidden layer is `hid` of the normalised rows. -/
theorem v99_eq : res_main_v99 V0 = hid (norms (res_main_v77 V0) (V0 (Proc.devRef .tc main_arg8)) (V0 (Proc.devRef .tc main_arg9)))
    (V0 (Proc.devRef .tc main_arg10)) (V0 (Proc.devRef .tc main_arg11)) := by
  unfold res_main_v99 res_main_call2_v5 res_main_call2_v8
  rfl

/-- An entry of the hidden layer is an affine function of its row. -/
theorem hid_apply (x : FVec Ideal S8x1024x768 .f32) (w : FVec Ideal S768x3072 .f32) (b : FVec Ideal S3072 .f32)
    (i : Fin 8) (l : Fin 1024) (j : Fin 3072) :
    hid x w b (ix3 i l j) = Spec.affine (fun k => x (ix3 i l k)) (fun k j => w (ix2 k j)) (fun j => b (ix1 j)) j := by
  pointwise [hid, Spec.affine, dot_S8x1024x768_S768x3072_S8x1024x3072_2_0_01_1_n_n]

/-- The activation, written with the complement of the error function at the negated argument. -/
theorem gelu_erfc (x : EReal) :
    Ideal.ofBits .f32 0x3F000000#32 * x * Ideal.erfc (-x * Ideal.ofBits .f32 0x3F3504F3#32) = Spec.gelu x := by
  rw [neg_mul, Ideal.erfc_neg, Spec.gelu]

/-- The rows after the last layers. -/
def fin (y : FVec Ideal S8x1024x768 .f32) (u : FVec Ideal S8x1024x3072 .f32) (w : FVec Ideal S3072x768 .f32) (b : FVec Ideal S768 .f32) :
    FVec Ideal S8192x768 .f32 :=
  shapeCast _ (addf y (addf (Host.dotGeneral (φ₁ := .f32) (φ₂ := .f32) dot_S8x1024x3072_S3072x768_S8x1024x768_2_0_01_1_n_n none
    (mulf (mulf (broadcastInDim S8x1024x3072 ![] bcast_S_S8x1024x3072 (constant S_ .f32 0x3F000000#32)) u)
      (Host.erfc (mulf (Host.negf u) (broadcastInDim S8x1024x3072 ![] bcast_S_S8x1024x3072 (constant S_ .f32 0x3F3504F3#32))))) w)
    (broadcastInDim S8x1024x768 ![0, 1, 2] bcast_S1x1x768_S8x1024x768_0_1_2 (broadcastInDim S1x1x768 ![2] bcast_S768_S1x1x768_2 b))))
    shapeCasts_S8x1024x768_S8192x768

/-- An entry of the result is its row's entry and an affine function of the activated hidden layer. -/
theorem fin_apply (y : FVec Ideal S8x1024x768 .f32) (u : FVec Ideal S8x1024x3072 .f32) (w : FVec Ideal S3072x768 .f32)
    (b : FVec Ideal S768 .f32) (R : Fin 8192) (l : Fin 768) :
    fin y u w b (ix2 R l) = y (ix3 (⟨R.val / 1024, by omega⟩ : Fin 8) (⟨R.val % 1024, by omega⟩ : Fin 1024) l)
      + Spec.affine (fun k => Spec.gelu (u (ix3 (⟨R.val / 1024, by omega⟩ : Fin 8) (⟨R.val % 1024, by omega⟩ : Fin 1024) k)))
        (fun k j => w (ix2 k j)) (fun j => b (ix1 j)) l := by
  simp only [← gelu_erfc]
  pointwise [fin, Spec.affine, dot_S8x1024x3072_S3072x768_S8x1024x768_2_0_01_1_n_n]

end Cert.ReferenceIdeal.Value

end
-- ==== Proof.RefResult.lean ====
/- The reference's result is the specification's. -/
module

public import proofs.«01_k».proof.Proof.RefScores
public import proofs.«01_k».proof.Proof.RefWeights

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable (V0 : Valuation τ sig (Elt Ideal))

/-- The arguments at the start, by their coordinates. -/
def args : Spec.Args := Spec.Args.of (V0 (Proc.devRef .tc main_arg0)) (V0 (Proc.devRef .tc main_arg1))
  (V0 (Proc.devRef .tc main_arg2)) (V0 (Proc.devRef .tc main_arg3)) (V0 (Proc.devRef .tc main_arg4))
  (V0 (Proc.devRef .tc main_arg5)) (V0 (Proc.devRef .tc main_arg6)) (gathered (V0 (Proc.devRef .tc main_arg7)))
  (V0 (Proc.devRef .tc main_arg8)) (V0 (Proc.devRef .tc main_arg9)) (V0 (Proc.devRef .tc main_arg10))
  (V0 (Proc.devRef .tc main_arg11)) (V0 (Proc.devRef .tc main_arg12)) (V0 (Proc.devRef .tc main_arg13))

/-- The values that the reference projects. -/
theorem v27_value (k : Fin 16) (w : Fin 8) (h : Fin 12) (n d : Fin 64) :
    res_main_v27 V0 (ix5 (2 : Fin 3) (win k w) h n d) = (args V0).qkv k w n (Spec.colV (Spec.inHead h d)) :=
  (congrFun (v27_eq V0) _).trans (qkvs_v _ _ _ _ _ _ _ _ _ _ _ _ _ _ k w h n d)

/-- The rows of scores of the reference. -/
theorem v50_row (k : Fin 16) (w : Fin 8) (h : Fin 12) (n : Fin 64) :
    rowOf (res_main_v50 V0) (win k w) h n = (args V0).score k w h n := by
  rw [v50_eq, v27_eq]
  exact scores_spec _ _ _ _ _ _ _ _ _ _ _ _ _ _ k w h n

/-- The reference's weights are those of a descending sort of the scores. -/
theorem weights_spec (k : Fin 16) (w : Fin 8) (h : Fin 12) (n j : Fin 64) :
    putBack (keys (res_main_v50 V0)) (shares (res_main_v57 V0)) (ix4 (win k w) h n j)
      = Scalars.sortWeights ((args V0).score k w h n) j := by
  rw [← v50_row]
  exact weights_apply _ _ _ _ _ _ _ (fun t => keys_apply _ _ _ _ t) fun t => shares_apply _ _ _ _ _ (v57_apply V0 _ _ _) t

/-- The attention's result, projected, is the specification's. -/
theorem projected_spec (k : Fin 16) (w : Fin 8) (n : Fin 64) (l : Fin 768) :
    projected (putBack (keys (res_main_v50 V0)) (shares (res_main_v57 V0))) (res_main_v27 V0)
        (V0 (Proc.devRef .tc main_arg5)) (V0 (Proc.devRef .tc main_arg6)) (ix3 (win k w) n l)
      = Spec.affine ((args V0).heads k w n) (args V0).pw (args V0).pb l := by
  rw [projected_apply]
  simp only [weights_spec, v27_value]
  rfl

/-- A row is the one of its chunk, window and token. -/
theorem row_eq : ∀ R : Fin 8192, Spec.inChunk (Spec.chunkOf R) (Spec.img (Spec.inWin (Spec.winOf R) (Spec.tokOf R))) = R := by
  decide +kernel

/-- A row after the attention. -/
theorem v77_apply (R : Fin 8192) (l : Fin 768) :
    res_main_v77 V0 (ix3 (⟨R.val / 1024, by omega⟩ : Fin 8) (⟨R.val % 1024, by omega⟩ : Fin 1024) l)
      = (args V0).after (Spec.chunkOf R) (Spec.winOf R) (Spec.tokOf R) l := by
  rw [v77_eq]
  refine (congrArg₂ (fun a b : EReal => a + b) rfl ((images_apply _ R l).trans (projected_spec V0 _ _ _ l))).trans ?_
  unfold Spec.Args.after Spec.Args.tok
  rw [row_eq]
  rfl

/-- A row's hidden layer. -/
theorem v99_apply (R : Fin 8192) (j : Fin 3072) :
    res_main_v99 V0 (ix3 (⟨R.val / 1024, by omega⟩ : Fin 8) (⟨R.val % 1024, by omega⟩ : Fin 1024) j)
      = (args V0).hidden (Spec.chunkOf R) (Spec.winOf R) (Spec.tokOf R) j := by
  rw [v99_eq, hid_apply]
  simp only [norms_apply, v77_apply]
  rfl

/-- A row of the reference's result. -/
theorem fin_spec (R : Fin 8192) (l : Fin 768) :
    fin (res_main_v77 V0) (res_main_v99 V0) (V0 (Proc.devRef .tc main_arg12)) (V0 (Proc.devRef .tc main_arg13)) (ix2 R l)
      = (args V0).out (Spec.chunkOf R) (Spec.winOf R) (Spec.tokOf R) l := by
  rw [fin_apply]
  simp only [v77_apply, v99_apply]
  rfl

end Cert.ReferenceIdeal.Value

end
-- ==== Proof.Rows.lean ====
/- The body's blocks over the extended reals, read at an index. -/
module

public import proofs.«01_k».proof.Proof.BodyRun
public import proofs.«01_k».proof.Proof.Spec

@[expose] public section

set_option maxRecDepth 16384

noncomputable section

namespace Cert.KernelIdeal.Block

open Cert.KernelIdeal Cert.KernelIdeal.Gen Idealize.ShloMosaic Idealize.SL.Sem

/-- The rows of a chunk put in the order of its windows. -/
theorem winRows_apply (x : FVec Ideal S512x768 .f32) (r : Fin 512) (l : Fin 768) :
    winRows (F := Ideal) x (ix2 r l) = x (ix2 (Spec.img r) l) := by
  pointwise [winRows, Spec.img]

/-- The rows of a chunk put back in the order of the image. -/
theorem imgRows_apply (x : FVec Ideal S512x768 .f32) (r : Fin 512) (l : Fin 768) :
    imgRows (F := Ideal) x (ix2 r l) = x (ix2 (Spec.place r) l) := by
  pointwise [imgRows, Spec.place]

/-- A normalised entry is the specification's. -/
theorem lnRows_apply (x : FVec Ideal S512x768 .f32) (g b : FVec Ideal S1x768 .f32) (r : Fin 512) (l : Fin 768) :
    lnRows (F := Ideal) x g b (ix2 r l)
      = Spec.normed (fun k => x (ix2 r k)) (fun k => g (ix2 0 k)) (fun k => b (ix2 0 k)) l := by
  pointwise [lnRows, centred, meanRows, Spec.normed, Spec.spread, Spec.mean]

/-- An entry of the chunk's projections is an affine function of its normalised row. -/
theorem qkvRows_apply (x : FVec Ideal S512x768 .f32) (g b : FVec Ideal S1x768 .f32) (w : FVec Ideal S768x2304 .bf16)
    (wb : FVec Ideal S1x2304 .f32) (r : Fin 512) (l : Fin 2304) :
    qkvRows (F := Ideal) x g b w wb (ix2 r l)
      = Spec.affine (fun k => lnRows (F := Ideal) (winRows x) g b (ix2 r k)) (fun k j => w (ix2 k j))
          (fun j => wb (ix2 0 j)) l := by
  pointwise [qkvRows, Spec.affine, dot_S512x768_S768x2304_S512x2304_1_0_0_1_n_n]

/-- The dot of a key and a query of one head. -/
theorem headDot_apply (qkv : FVec Ideal S512x2304 .f32) (w : Fin 8) (h : Fin 12) (k q : Fin 64) :
    headDot (F := Ideal) qkv w h (ix2 k q)
      = ∑ d : Fin 64, qkv (ix2 (Spec.inWin w k) (Spec.colK (Spec.inHead h d)))
          * qkv (ix2 (Spec.inWin w q) (Spec.colQ (Spec.inHead h d))) := by
  pointwise [headDot, head, winK, winQ, dot_S64x64_S64x64_S64x64_1_1_0_0_n_n, Spec.inWin, Spec.colK, Spec.colQ, Spec.inHead]

/-- A score of the kernel is the scaled dot of key and query, and the bias of the pair. -/
theorem scores_apply (qkv : FVec Ideal S512x2304 .f32) (bias : FVec Ideal S64x768 .f32) (w : Fin 8) (h : Fin 12)
    (k q : Fin 64) :
    scores (F := Ideal) qkv bias w (ix2 k (Spec.inHead h q))
      = headDot (F := Ideal) qkv w h (ix2 k q) * Ideal.ofBits .f32 0x3E000000#32 + bias (ix2 k (Spec.inHead h q)) := by
  have e := concatenate_ofFn_apply (t := S64x768) (s₁ := S64x64) 1 (fun h : Fin 12 => headDot (F := Ideal) qkv w h)
    concatenates_S64x64_S64x64_S64x64_S64x64_S64x64_S64x64_S64x64_S64x64_S64x64_S64x64_S64x64_S64x64_S64x768_d1
    rfl 64 rfl (ix2 k (Spec.inHead h q)) h (by simp [ix2, Spec.inHead]; omega) (ix2 k q)
    (by simp [ix2, Spec.inHead]; omega) (by intro b hb; fin_cases b <;> first | rfl | exact absurd rfl hb)
  have e' : scores (F := Ideal) qkv bias w (ix2 k (Spec.inHead h q))
      = concatenate S64x768 1 (List.ofFn fun h : Fin 12 => (⟨S64x64, headDot (F := Ideal) qkv w h⟩ : (s : Shape) × (s.Idx → EReal)))
          concatenates_S64x64_S64x64_S64x64_S64x64_S64x64_S64x64_S64x64_S64x64_S64x64_S64x64_S64x64_S64x64_S64x768_d1
          (ix2 k (Spec.inHead h q)) * Ideal.ofBits .f32 0x3E000000#32 + bias (ix2 k (Spec.inHead h q)) := rfl
  rw [e', e]

/-- A column of a matrix with 64 rows. -/
def col {n : ℕ} {φ : FTy} (a : FVec Ideal ⟨2, ![64, n]⟩ φ) (l : Fin n) : Fin 64 → EReal := fun k => a (ix2 k l)

/-- Taking the least entry away, entry by entry. -/
theorem drop_apply (a : FVec Ideal S64x128 .f32) (k : Fin 64) (l : Fin 128) :
    drop (F := Ideal) a (ix2 k l) = Scalars.dropRow (col a l) k := by
  pointwise [drop, Scalars.dropRow, Spec.ofBits_inf, col]

/-- Taking the least entry of each column away acts column by column. -/
theorem col_drop (a : FVec Ideal S64x128 .f32) (l : Fin 128) : col (drop (F := Ideal) a) l = Scalars.dropRow (col a l) :=
  funext fun k => drop_apply a k l

/-- Taking 16 entries of each column away acts column by column. -/
theorem col_kept (a : FVec Ideal S64x128 .f32) (l : Fin 128) : col (kept (F := Ideal) a) l = Scalars.keptRow (col a l) := by
  simp only [kept, col_drop, Scalars.keptRow, Function.iterate_succ, Function.iterate_zero, Function.comp_apply, id_eq]

/-- The exponential of a kept entry, and 0 where it was taken away. -/
theorem expKept_apply (a : FVec Ideal S64x128 .f32) (k : Fin 64) (l : Fin 128) :
    expKept (F := Ideal) a (ix2 k l) = Scalars.expRow (col a l) k := by
  have h : kept (F := Ideal) a (ix2 k l) = Scalars.keptRow (col a l) k := congrFun (col_kept a l) k
  unfold expKept
  generalize kept (F := Ideal) a = b at h ⊢
  pointwise [Scalars.expRow, Spec.ofBits_inf, Spec.ofBits_neg_inf, col, h]

/-- A column's weights are those of its scores. -/
theorem colWeights_apply (a : FVec Ideal S64x128 .f32) (k : Fin 64) (l : Fin 128) :
    colWeights (F := Ideal) a (ix2 k l)
      = Scalars.roundWeights (Ideal.ofBits .f32 0x0DA24260#32) (col a l) k := by
  have h : ∀ k, expKept (F := Ideal) a (ix2 k l) = Scalars.expRow (col a l) k := fun k => expKept_apply a k l
  unfold colWeights
  generalize expKept (F := Ideal) a = b at h ⊢
  pointwise [Scalars.roundWeights, h]

/-- A window's weights: each column of its scores by itself. -/
theorem weights_apply (s : FVec Ideal S64x768 .f32) (k : Fin 64) (l : Fin 768) :
    weights (F := Ideal) s (ix2 k l) = Scalars.roundWeights (Ideal.ofBits .f32 0x0DA24260#32) (col s l) k := by
  have e := concatenate_ofFn_apply (t := S64x768) (s₁ := S64x128) 1 (fun c : Fin 6 => groupWeights (F := Ideal) s c)
    concatenates_S64x128_S64x128_S64x128_S64x128_S64x128_S64x128_S64x768_d1
    rfl 128 rfl (ix2 k l) ⟨l.val / 128, by omega⟩ rfl (ix2 k (⟨l.val % 128, by omega⟩ : Fin 128))
    rfl (by intro b hb; fin_cases b <;> first | rfl | exact absurd rfl hb)
  refine e.trans ?_
  show colWeights (F := Ideal) _ _ = _
  rw [colWeights_apply]
  congr 1
  funext k
  have hl : (⟨l.val / 128 * 128 + l.val % 128, by omega⟩ : Fin 768) = l := by ext; simp only; omega
  pointwise [col, hl]

/-- One head's output is the weighted sum of its values. -/
theorem headOut_apply (wgt v : FVec Ideal S64x768 .bf16) (h : Fin 12) (q d : Fin 64) :
    headOut (F := Ideal) wgt v h (ix2 q d)
      = ∑ j : Fin 64, wgt (ix2 j (Spec.inHead h q)) * v (ix2 j (Spec.inHead h d)) := by
  pointwise [headOut, head, dot_S64x64_S64x64_S64x64_0_0_1_1_n_n, Spec.inHead]

/-- The heads' outputs side by side. -/
theorem heads_apply (wgt v : FVec Ideal S64x768 .bf16) (q : Fin 64) (l : Fin 768) :
    heads (F := Ideal) wgt v (ix2 q l)
      = headOut (F := Ideal) wgt v ⟨l.val / 64, by omega⟩ (ix2 q (⟨l.val % 64, by omega⟩ : Fin 64)) :=
  concatenate_ofFn_apply (t := S64x768) (s₁ := S64x64) 1 (fun h : Fin 12 => headOut (F := Ideal) wgt v h)
    concatenates_S64x64_S64x64_S64x64_S64x64_S64x64_S64x64_S64x64_S64x64_S64x64_S64x64_S64x64_S64x64_S64x768_d1
    rfl 64 rfl (ix2 q l) ⟨l.val / 64, by omega⟩ rfl (ix2 q (⟨l.val % 64, by omega⟩ : Fin 64))
    rfl (by intro b hb; fin_cases b <;> first | rfl | exact absurd rfl hb)

/-- The values of a window. -/
theorem winV_apply (qkv : FVec Ideal S512x2304 .f32) (w : Fin 8) (k : Fin 64) (l : Fin 768) :
    winV (F := Ideal) qkv w (ix2 k l) = qkv (ix2 (Spec.inWin w k) (Spec.colV l)) := by
  pointwise [winV, Spec.inWin, Spec.colV]

/-- The rows of the attention that belong to a window are the output of that window. -/
theorem att_apply (qkv : FVec Ideal S512x2304 .f32) (bias : FVec Ideal S64x768 .f32) (w : Fin 8) (n : Fin 64) (l : Fin 768) :
    att (F := Ideal) qkv bias (ix2 (Spec.inWin w n) l) = winOut (F := Ideal) qkv bias w (ix2 n l) :=
  concatenate_ofFn_apply (t := S512x768) (s₁ := S64x768) 0 (fun w : Fin 8 => winOut (F := Ideal) qkv bias w)
    concatenates_S64x768_S64x768_S64x768_S64x768_S64x768_S64x768_S64x768_S64x768_S512x768_d0
    rfl 64 rfl (ix2 (Spec.inWin w n) l) w (by simp [ix2, Spec.inWin]; omega) (ix2 n l)
    (by simp [ix2, Spec.inWin]; omega) (by intro b hb; fin_cases b <;> first | rfl | exact absurd rfl hb)

/-- The rows after the attention. -/
theorem yBlock_apply (x : FVec Ideal S512x768 .f32) (g b : FVec Ideal S1x768 .f32) (qw : FVec Ideal S768x2304 .bf16)
    (qb : FVec Ideal S1x2304 .f32) (bias : FVec Ideal S64x768 .f32) (pw : FVec Ideal S768x768 .bf16)
    (pb : FVec Ideal S1x768 .f32) (r : Fin 512) (l : Fin 768) :
    yBlock (F := Ideal) x g b qw qb bias pw pb (ix2 r l)
      = Spec.affine (fun k => att (F := Ideal) (qkvRows (F := Ideal) x g b qw qb) bias (ix2 r k)) (fun k j => pw (ix2 k j))
          (fun j => pb (ix2 0 j)) l + x (ix2 (Spec.img r) l) := by
  rw [← winRows_apply x r l]
  unfold yBlock
  rw [shapeCast_self bias]
  generalize att (F := Ideal) _ _ = a
  generalize winRows (F := Ideal) x = y
  pointwise [Spec.affine, dot_S512x768_S768x768_S512x768_1_0_0_1_n_n]

/-- A strip of the activated hidden layer. -/
theorem strip_apply (a : FVec Ideal S512x768 .bf16) (w : FVec Ideal S768x384 .bf16) (b : FVec Ideal S1x384 .f32)
    (r : Fin 512) (l : Fin 384) :
    gelu (F := Ideal) (strip (F := Ideal) a w b) (ix2 r l)
      = Spec.gelu (Spec.affine (fun k => a (ix2 r k)) (fun k j => w (ix2 k j)) (fun j => b (ix2 0 j)) l) := by
  pointwise [gelu, strip, Spec.gelu, Spec.affine, dot_S512x768_S768x384_S512x384_1_0_0_1_n_n]
  rfl

/-- The eight strips side by side are the activated hidden layer. -/
theorem hidden_apply (a : FVec Ideal S512x768 .bf16) (w : FVec Ideal S768x3072 .bf16) (b : FVec Ideal S1x3072 .f32)
    (r : Fin 512) (l : Fin 3072) :
    hidden (F := Ideal) a (stripsW w) (stripsB b) (ix2 r l)
      = Spec.gelu (Spec.affine (fun k => a (ix2 r k)) (fun k j => w (ix2 k j)) (fun j => b (ix2 0 j)) l) := by
  have e := concatenate_ofFn_apply (t := S512x3072) (s₁ := S512x384) 1
    (fun c : Fin 8 => gelu (F := Ideal) (strip (F := Ideal) a (stripsW w c) (stripsB b c)))
    concatenates_S512x384_S512x384_S512x384_S512x384_S512x384_S512x384_S512x384_S512x384_S512x3072_d1
    rfl 384 rfl (ix2 r l) ⟨l.val / 384, by omega⟩ rfl (ix2 r (⟨l.val % 384, by omega⟩ : Fin 384))
    rfl (by intro b hb; fin_cases b <;> first | rfl | exact absurd rfl hb)
  refine e.trans ?_
  show gelu (F := Ideal) (strip (F := Ideal) a _ _) _ = _
  rw [strip_apply]
  have hl : (⟨l.val / 384 * 384 + l.val % 384, by omega⟩ : Fin 3072) = l := by ext; simp only; omega
  pointwise [stripsW, stripsB, Spec.affine, hl]

/-- An entry of the block of the result. -/
theorem outBlock_apply (y : FVec Ideal S512x768 .f32) (g b : FVec Ideal S1x768 .f32) (w1 : FVec Ideal S768x3072 .bf16)
    (b1 : FVec Ideal S1x3072 .f32) (w2 : FVec Ideal S3072x768 .bf16) (b2 : FVec Ideal S1x768 .f32) (r : Fin 512) (l : Fin 768) :
    outBlock (F := Ideal) y g b (stripsW w1) (stripsB b1) w2 b2 (ix2 r l)
      = Spec.affine (fun k => hidden (F := Ideal) (lnRows (F := Ideal) y g b) (stripsW w1) (stripsB b1) (ix2 (Spec.place r) k))
          (fun k j => w2 (ix2 k j)) (fun j => b2 (ix2 0 j)) l + y (ix2 (Spec.place r) l) := by
  unfold outBlock
  rw [imgRows_apply]
  generalize hidden (F := Ideal) _ _ _ = a
  generalize Spec.place r = r
  pointwise [Spec.affine, dot_S512x3072_S3072x768_S512x768_1_0_0_1_n_n]

end Cert.KernelIdeal.Block

end
-- ==== Proof.Chunk.lean ====
/- A chunk's blocks compute the block's mathematics: every entry of what the body stores is the entry the specification
   names. -/
module

public import proofs.«01_k».proof.Proof.Rows

@[expose] public section

set_option maxRecDepth 16384

noncomputable section

namespace Cert.KernelIdeal.Block

open Cert.KernelIdeal Cert.KernelIdeal.Gen Idealize.ShloMosaic Idealize.SL.Sem

/-- The blocks staged for the attention of chunk `k` hold the arguments `A`. -/
structure HoldsAtt (A : Spec.Args) (k : Fin 16) (x : FVec Ideal S512x768 .f32) (g b : FVec Ideal S1x768 .f32)
    (qw : FVec Ideal S768x2304 .bf16) (qb : FVec Ideal S1x2304 .f32) (bias : FVec Ideal S64x768 .f32)
    (pw : FVec Ideal S768x768 .bf16) (pb : FVec Ideal S1x768 .f32) : Prop where
  x : ∀ r l, x (ix2 r l) = A.x (Spec.inChunk k r) l
  g : ∀ l, g (ix2 0 l) = A.g1 l
  b : ∀ l, b (ix2 0 l) = A.n1 l
  qw : ∀ r l, qw (ix2 r l) = A.qw r l
  qb : ∀ l, qb (ix2 0 l) = A.qb l
  bias : ∀ h q j, bias (ix2 j (Spec.inHead h q)) = A.bias h q j
  pw : ∀ r l, pw (ix2 r l) = A.pw r l
  pb : ∀ l, pb (ix2 0 l) = A.pb l

/-- The blocks staged for the layers after the attention hold the arguments `A`. -/
structure HoldsMlp (A : Spec.Args) (g b : FVec Ideal S1x768 .f32) (w1 : FVec Ideal S768x3072 .bf16)
    (b1 : FVec Ideal S1x3072 .f32) (w2 : FVec Ideal S3072x768 .bf16) (b2 : FVec Ideal S1x768 .f32) : Prop where
  g : ∀ l, g (ix2 0 l) = A.g2 l
  b : ∀ l, b (ix2 0 l) = A.n2 l
  w1 : ∀ r l, w1 (ix2 r l) = A.w1 r l
  b1 : ∀ l, b1 (ix2 0 l) = A.c1 l
  w2 : ∀ r l, w2 (ix2 r l) = A.w2 r l
  b2 : ∀ l, b2 (ix2 0 l) = A.c2 l

section Att

variable {A : Spec.Args} {k : Fin 16} {x : FVec Ideal S512x768 .f32} {g b : FVec Ideal S1x768 .f32}
  {qw : FVec Ideal S768x2304 .bf16} {qb : FVec Ideal S1x2304 .f32} {bias : FVec Ideal S64x768 .f32}
  {pw : FVec Ideal S768x768 .bf16} {pb : FVec Ideal S1x768 .f32} (H : HoldsAtt A k x g b qw qb bias pw pb)
include H

/-- Queries, keys and values of the chunk's tokens. -/
theorem qkv_eq (w : Fin 8) (n : Fin 64) (c : Fin 2304) :
    qkvRows (F := Ideal) x g b qw qb (ix2 (Spec.inWin w n) c) = A.qkv k w n c := by
  rw [qkvRows_apply]
  simp only [lnRows_apply, winRows_apply, H.x, H.g, H.b, H.qw, H.qb]
  rfl

/-- The scores of a query stand in its column. -/
theorem scores_eq (w : Fin 8) (h : Fin 12) (n : Fin 64) :
    col (scores (F := Ideal) (qkvRows (F := Ideal) x g b qw qb) bias w) (Spec.inHead h n) = A.score k w h n := by
  funext j
  unfold col Spec.Args.score
  rw [scores_apply, headDot_apply, H.bias]
  simp only [qkv_eq H]
  obtain ⟨c, hc, e⟩ := Spec.scale_real
  rw [e, ← Scalars.sum_mul_const _ _ hc]

/-- A window's attention is the specification's, when every row of scores has a cut. -/
theorem winOut_eq (hA : A.Cuts) (w : Fin 8) (n : Fin 64) (l : Fin 768) :
    winOut (F := Ideal) (qkvRows (F := Ideal) x g b qw qb) bias w (ix2 n l) = A.heads k w n l := by
  unfold winOut
  rw [heads_apply, headOut_apply]
  unfold Spec.Args.heads Spec.Args.attn
  refine Finset.sum_congr rfl fun j _ => ?_
  rw [weights_apply, scores_eq H, Scalars.roundWeights_eq (hA k w _ n) Spec.floor_le, winV_apply, qkv_eq H]

/-- The rows after the attention are the specification's. -/
theorem yBlock_eq (hA : A.Cuts) (w : Fin 8) (n : Fin 64) (l : Fin 768) :
    yBlock (F := Ideal) x g b qw qb bias pw pb (ix2 (Spec.inWin w n) l) = A.after k w n l := by
  rw [yBlock_apply]
  simp only [att_apply, winOut_eq H hA, H.pw, H.pb, H.x]
  exact add_comm _ _

end Att

/-- The rows after the block are the specification's. -/
theorem outBlock_eq {A : Spec.Args} {k : Fin 16} {y : FVec Ideal S512x768 .f32} {g b : FVec Ideal S1x768 .f32}
    {w1 : FVec Ideal S768x3072 .bf16} {b1 : FVec Ideal S1x3072 .f32} {w2 : FVec Ideal S3072x768 .bf16}
    {b2 : FVec Ideal S1x768 .f32} (H : HoldsMlp A g b w1 b1 w2 b2)
    (hy : ∀ w n l, y (ix2 (Spec.inWin w n) l) = A.after k w n l) (r : Fin 512) (w : Fin 8) (n : Fin 64)
    (hr : Spec.place r = Spec.inWin w n) (l : Fin 768) :
    outBlock (F := Ideal) y g b (stripsW w1) (stripsB b1) w2 b2 (ix2 r l) = A.out k w n l := by
  rw [outBlock_apply, hr]
  simp only [hidden_apply, lnRows_apply, hy, H.g, H.b, H.w1, H.b1, H.w2, H.b2]
  exact add_comm _ _

end Cert.KernelIdeal.Block

end
-- ==== Proof.Inputs.lean ====
/- What the steps' blocks hold: the arguments, as the host lays them out. -/
module

public import proofs.«01_k».proof.Proof.Chunk
public import proofs.«01_k».proof.Proof.Result
public import Idealize.ShloMosaic.Lib.Claim
public import Idealize.ShloMosaic.Lib.Pipeline.ValueKit.Point

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat Cfg Window BodyObligation cellOf)

variable (m : (ℓ : Loc nD τ sig) → Buf (Elt Ideal) ℓ) (c : Dev nD)

/-- Every window of whole arrays starts at the origin; the rows' window starts at its chunk. -/
theorem origin : ∀ t : Fin cfg0.N,
    win0_0.index t = ![min t.val 15, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] := by decide +kernel

/-- The first norm's scale is staged as it is. -/
theorem iblk_1 (t : Fin cfg0.N) (l : Fin 768) :
    iblk m c 1 t (ix2 0 l) = m ((c : Thread nD τ).loc main_arg1) (ix1 l) := by
  blk_ext! [iblk, origin t]

/-- The first norm's shift is staged as it is. -/
theorem iblk_2 (t : Fin cfg0.N) (l : Fin 768) :
    iblk m c 2 t (ix2 0 l) = m ((c : Thread nD τ).loc main_arg2) (ix1 l) := by
  blk_ext! [iblk, origin t]

/-- The projections' offsets are staged as they are. -/
theorem iblk_4 (t : Fin cfg0.N) (l : Fin 2304) :
    iblk m c 4 t (ix2 0 l) = m ((c : Thread nD τ).loc main_arg4) (ix1 l) := by
  blk_ext! [iblk, origin t]

/-- The output projection's offsets are staged as they are. -/
theorem iblk_6 (t : Fin cfg0.N) (l : Fin 768) :
    iblk m c 6 t (ix2 0 l) = m ((c : Thread nD τ).loc main_arg6) (ix1 l) := by
  blk_ext! [iblk, origin t]

/-- The second norm's scale is staged as it is. -/
theorem iblk_8 (t : Fin cfg0.N) (l : Fin 768) :
    iblk m c 8 t (ix2 0 l) = m ((c : Thread nD τ).loc main_arg8) (ix1 l) := by
  blk_ext! [iblk, origin t]

/-- The second norm's shift is staged as it is. -/
theorem iblk_9 (t : Fin cfg0.N) (l : Fin 768) :
    iblk m c 9 t (ix2 0 l) = m ((c : Thread nD τ).loc main_arg9) (ix1 l) := by
  blk_ext! [iblk, origin t]

/-- The hidden layer's offsets are staged as they are. -/
theorem iblk_11 (t : Fin cfg0.N) (l : Fin 3072) :
    iblk m c 11 t (ix2 0 l) = m ((c : Thread nD τ).loc main_arg11) (ix1 l) := by
  blk_ext! [iblk, origin t]

/-- The last layer's offsets are staged as they are. -/
theorem iblk_13 (t : Fin cfg0.N) (l : Fin 768) :
    iblk m c 13 t (ix2 0 l) = m ((c : Thread nD τ).loc main_arg13) (ix1 l) := by
  blk_ext! [iblk, origin t]

/-- The projections' weights are staged with their values. -/
theorem iblk_3 (t : Fin cfg0.N) (r : Fin 768) (l : Fin 2304) :
    iblk m c 3 t (ix2 r l) = m ((c : Thread nD τ).loc main_arg3) (ix2 r l) := by
  blk_ext! [iblk, origin t]

/-- The output projection's weights are staged with their values. -/
theorem iblk_5 (t : Fin cfg0.N) (r : Fin 768) (l : Fin 768) :
    iblk m c 5 t (ix2 r l) = m ((c : Thread nD τ).loc main_arg5) (ix2 r l) := by
  blk_ext! [iblk, origin t]

/-- The hidden layer's weights are staged with their values. -/
theorem iblk_10 (t : Fin cfg0.N) (r : Fin 768) (l : Fin 3072) :
    iblk m c 10 t (ix2 r l) = m ((c : Thread nD τ).loc main_arg10) (ix2 r l) := by
  blk_ext! [iblk, origin t]

/-- The last layer's weights are staged with their values. -/
theorem iblk_12 (t : Fin cfg0.N) (r : Fin 3072) (l : Fin 768) :
    iblk m c 12 t (ix2 r l) = m ((c : Thread nD τ).loc main_arg12) (ix2 r l) := by
  blk_ext! [iblk, origin t]

/-- Chunk `k`'s step finds the rows of its chunk staged. -/
theorem iblk_0 (k : Fin 16) (r : Fin 512) (l : Fin 768) :
    iblk m c 0 (stepOf k) (ix2 r l) = m ((c : Thread nD τ).loc main_arg0)
      (ix3 (⟨(Spec.inChunk k r).val / 1024, by omega⟩ : Fin 8) (⟨(Spec.inChunk k r).val % 1024, by omega⟩ : Fin 1024) l) := by
  have o0 : win0_0.index (stepOf k) 0 = k.val := by
    rw [(origin (stepOf k)).1]
    have := k.isLt
    show min k.val 15 = k.val
    omega
  have o1 : win0_0.index (stepOf k) 1 = 0 := by rw [(origin (stepOf k)).1]; rfl
  generalize stepOf k = t at o0 o1 ⊢
  blk_ext! [iblk, o0, o1, Spec.inChunk]

/-- The bias table's rows, gathered token pair by token pair. -/
def gathered (x : FVec Ideal S225x12 .f32) : FVec Ideal S4096x12 .f32 :=
  Host.gather gather_S225x12_S4096x1_S4096x12_1_0_n_n_0_1_112 x (broadcastInDim S4096x1 ![0] bcast_S4096_S4096x1_0
    (select (cmpi .slt (fun i => lit0 (S4096.rowMajor i)) (broadcastInDim S4096 ![] bcast_S_S4096 (constantI S_ 32 0#32)))
      (addi (fun i => lit0 (S4096.rowMajor i)) (broadcastInDim S4096 ![] bcast_S_S4096 (constantI S_ 32 225#32)))
      (fun i => lit0 (S4096.rowMajor i))))

/-- The staged bias has the gathered row of query `q` and key `j` at row `j`, column `q` of head `h`. -/
theorem iblk_7 (t : Fin cfg0.N) (h : Fin 12) (q j : Fin 64) :
    iblk m c 7 t (ix2 j (Spec.inHead h q))
      = gathered (m ((c : Thread nD τ).loc main_arg7)) (ix2 (⟨q.val * 64 + j.val, by omega⟩ : Fin 4096) h) := by
  have e : iblk m c 7 t (ix2 j (Spec.inHead h q)) = V m c main_call0_v10 (ix2 j (Spec.inHead h q)) := by
    blk_ext [iblk, origin t]
  rw [e]
  have e' : V m c main_call0_v10 = shapeCast S64x768 (transpose S64x12x64 [1, 2, 0] (shapeCast S64x64x12
      (gathered (m ((c : Thread nD τ).loc main_arg7))) shapeCasts_S4096x12_S64x64x12) transposes_S64x64x12_S64x12x64_1_2_0)
      shapeCasts_S64x12x64_S64x768 := by
    entry_read
    rfl
  rw [e']
  generalize gathered _ = G
  pointwise [Spec.inHead]
/-- The arguments in memory, by their coordinates. -/
def args : Spec.Args := Spec.Args.of (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (gathered (m ((c : Thread nD τ).loc main_arg7)))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))

/-- What chunk `k`'s step finds staged for the attention. -/
theorem holdsAtt (k : Fin 16) : HoldsAtt (args m c) k (iblk m c 0 (stepOf k)) (iblk m c 1 (stepOf k))
    (iblk m c 2 (stepOf k)) (iblk m c 3 (stepOf k)) (iblk m c 4 (stepOf k)) (iblk m c 7 (stepOf k))
    (iblk m c 5 (stepOf k)) (iblk m c 6 (stepOf k)) where
  x := iblk_0 m c k
  g := iblk_1 m c _
  b := iblk_2 m c _
  qw := iblk_3 m c _
  qb := iblk_4 m c _
  bias := iblk_7 m c _
  pw := iblk_5 m c _
  pb := iblk_6 m c _

/-- What any step finds staged for the layers after the attention. -/
theorem holdsMlp (t : Fin cfg0.N) : HoldsMlp (args m c) (iblk m c 8 t) (iblk m c 9 t)
    (iblk m c 10 t) (iblk m c 11 t) (iblk m c 12 t) (iblk m c 13 t) where
  g := iblk_8 m c _
  b := iblk_9 m c _
  w1 := iblk_10 m c _
  b1 := iblk_11 m c _
  w2 := iblk_12 m c _
  b2 := iblk_13 m c _

/-- The place of a row in its chunk is its token's place in its window. -/
theorem place_row : ∀ R : Fin 8192, Spec.place ⟨R.val % 512, Nat.mod_lt _ (by decide)⟩
    = Spec.inWin (Spec.winOf R) (Spec.tokOf R) := by
  decide +kernel

/-- The kernel's result, entry by entry. -/
theorem result_eq (hA : (args m c).Cuts) (R : Fin 8192) (l : Fin 768) :
    result m c (ix2 R l) = (args m c).out (Spec.chunkOf R) (Spec.winOf R) (Spec.tokOf R) l := by
  have e : inChunk (ix2 R l) = ix2 (⟨R.val % 512, Nat.mod_lt _ (by decide)⟩ : Fin 512) l := by
    funext a; match a with
    | ⟨0, _⟩ => rfl
    | ⟨1, _⟩ => rfl
  unfold result
  rw [e]
  exact outBlock_eq (holdsMlp m c _) (fun w n l => yBlock_eq (holdsAtt m c (Spec.chunkOf R)) hA w n l) _ _ _ (place_row R) l

end Cert.KernelIdeal.Block

end
-- ==== Proof.Tables.lean ====
/- The kernel and the reference gather the same rows of the bias table. -/
module

public import proofs.«01_k».proof.Proof.RefAttention
public import proofs.«01_k».proof.Proof.Inputs
public import proofs.«01_k».proof.Proof.Gen.Pre_no_ties_at_cut

@[expose] public section

set_option maxRecDepth 16384

noncomputable section

namespace Cert.Tables

open Idealize.ShloMosaic

/-- The kernel's table of token pairs is the reference's. -/
theorem lit0_kernel : @Cert.KernelIdeal.lit0 = @Cert.ReferenceIdeal.lit0 := rfl

/-- The precondition's table of token pairs is the reference's. -/
theorem lit0_pre : @Cert.Pre_no_ties_at_cut.lit0 = @Cert.ReferenceIdeal.lit0 := rfl

/-- The kernel's gathered rows are the reference's. -/
theorem gathered_kernel (x : FVec Ideal Cert.ReferenceIdeal.S225x12 .f32) :
    Cert.KernelIdeal.Block.gathered x = Cert.ReferenceIdeal.Value.gathered x := by
  unfold Cert.KernelIdeal.Block.gathered Cert.ReferenceIdeal.Value.gathered
  rw [lit0_kernel, Cert.ReferenceIdeal.Value.pairs_eq]
  rfl

end Cert.Tables

end
-- ==== Proof.Precondition.lean ====
/- The precondition says that every row of scores has a cut. -/
module

public import proofs.«01_k».proof.Proof.RefScores
public import proofs.«01_k».proof.Proof.Tables

@[expose] public section

set_option maxRecDepth 16384

noncomputable section

namespace Cert.Pre_no_ties_at_cut

open Cert.Pre_no_ties_at_cut.Gen Idealize.ShloMosaic
open Cert.ReferenceIdeal.Value (qkvs windows norms means devs vars pairs along scores gathered rowOf sorted sorted_apply ix4_along win win_of scores_spec)

/-- The rows of scores in descending order. -/
def descending (s : FVec Ideal S128x12x64x64 .f32) : FVec Ideal S128x12x64x64 .f32 :=
  (Host.topK S128x12x64x64 3 (FloatOps.cmpfTotal .gt) s sliceFits_S128x12x64x64_S128x12x64x64).1

/-- Whether each of the entries from the 48th on is greater than the next, and the first finite. -/
def marks (v : FVec Ideal S128x12x64x64 .f32) : IVec S128x12x64x16 1 :=
  andi (cmpf .ogt (extractStridedSlice S128x12x64x16 ![0, 0, 0, 47] v slices_S128x12x64x64_S128x12x64x16_0_0_0_47)
      (extractStridedSlice S128x12x64x16 ![0, 0, 0, 48] v slices_S128x12x64x64_S128x12x64x16_0_0_0_48))
    (cmpf .olt (broadcastInDim S128x12x64x16 ![0, 1, 2, 3] bcast_S128x12x64x1_S128x12x64x16_0_1_2_3
        (extractStridedSlice S128x12x64x1 ![0, 0, 0, 0] v slices_S128x12x64x64_S128x12x64x1_0_0_0_0))
      (broadcastInDim S128x12x64x16 ![] bcast_S_S128x12x64x16 (constant S_ .f32 0x7F800000#32)))

/-- From the scores' dot on, the precondition marks the scores in descending order. -/
theorem fn_part2_eq (a : FVec Ideal S3x128x12x64x64 .f32) (x : FVec Ideal S225x12 .f32) :
    fn_part2 (F := Ideal) x (Host.dotGeneral (φ₁ := .f32) (φ₂ := .f32) dot_S128x12x64x64_S128x12x64x64_S128x12x64x64_3_2_2_3_01_01 none
      (mulf (shapeCast S128x12x64x64 (extractStridedSlice S1x128x12x64x64 ![0, 0, 0, 0, 0] a slices_S3x128x12x64x64_S1x128x12x64x64_0_0_0_0_0)
        shapeCasts_S1x128x12x64x64_S128x12x64x64) (broadcastInDim S128x12x64x64 ![] bcast_S_S128x12x64x64 (constant S_ .f32 0x3E000000#32)))
      (transpose S128x12x64x64 [0, 1, 3, 2] (shapeCast S128x12x64x64
        (extractStridedSlice S1x128x12x64x64 ![1, 0, 0, 0, 0] a slices_S3x128x12x64x64_S1x128x12x64x64_1_0_0_0_0)
        shapeCasts_S1x128x12x64x64_S128x12x64x64) transposes_S128x12x64x64_S128x12x64x64_0_1_3_2)) pairs
      (cmpi .slt pairs (broadcastInDim S4096 ![] bcast_S_S4096 (constantI S_ 32 0#32)))
      = marks (descending (scores a (gathered x))) := by
  unfold fn_part2 marks descending scores gathered
  rfl

/-- From the normalised rows on, the precondition marks the scores in descending order. -/
theorem fn_part1_eq (w : FVec Ideal S768x2304 .f32) (b : FVec Ideal S2304 .f32) (x : FVec Ideal S225x12 .f32)
    (v : FVec Ideal S8x1024x768 .f32) :
    fn_part1 (F := Ideal) w b x (fun i => lit0 (S64x64.rowMajor i)) (shapeCast S8x32x32x768 v shapeCasts_S8x1024x768_S8x32x32x768)
      = marks (descending (scores (qkvs (windows v) w b) (gathered x))) := by
  rw [Cert.Tables.lit0_pre]
  exact fn_part2_eq (qkvs (windows v) w b) x

/-- The precondition's variances are the reference's. -/
theorem fn_var_eq (x : FVec Ideal S8x1024x768 .f32) : fn_var (F := Ideal) x (constantI S_ 32 0#32) = vars x := by
  unfold fn_var fn_where vars devs means Cert.ReferenceIdeal.Value.count
  rfl

/-- The precondition starts by normalising the rows as the reference does. -/
theorem fn_open (x : FVec Ideal S8x1024x768 .f32) (g1 n1 : FVec Ideal S768 .f32) (qw : FVec Ideal S768x2304 .f32)
    (qb : FVec Ideal S2304 .f32) (pw : FVec Ideal S768x768 .f32) (pb : FVec Ideal S768 .f32) (t : FVec Ideal S225x12 .f32)
    (g2 n2 : FVec Ideal S768 .f32) (w1 : FVec Ideal S768x3072 .f32) (c1 : FVec Ideal S3072 .f32)
    (w2 : FVec Ideal S3072x768 .f32) (c2 : FVec Ideal S768 .f32) :
    fn (F := Ideal) x g1 n1 qw qb pw pb t g2 n2 w1 c1 w2 c2
      = fn_part1 (F := Ideal) qw qb t (fun i => lit0 (S64x64.rowMajor i))
        (shapeCast S8x32x32x768 (norms x g1 n1) shapeCasts_S8x1024x768_S8x32x32x768) := by
  unfold fn norms devs means along
  simp only [← fn_var_eq]

/-- The precondition, of the reference's scores. -/
theorem fn_eq (x : FVec Ideal S8x1024x768 .f32) (g1 n1 : FVec Ideal S768 .f32) (qw : FVec Ideal S768x2304 .f32)
    (qb : FVec Ideal S2304 .f32) (pw : FVec Ideal S768x768 .f32) (pb : FVec Ideal S768 .f32) (t : FVec Ideal S225x12 .f32)
    (g2 n2 : FVec Ideal S768 .f32) (w1 : FVec Ideal S768x3072 .f32) (c1 : FVec Ideal S3072 .f32)
    (w2 : FVec Ideal S3072x768 .f32) (c2 : FVec Ideal S768 .f32) :
    fn (F := Ideal) x g1 n1 qw qb pw pb t g2 n2 w1 c1 w2 c2
      = marks (descending (scores (qkvs (windows (norms x g1 n1)) qw qb) (gathered t))) :=
  (fn_open x g1 n1 qw qb pw pb t g2 n2 w1 c1 w2 c2).trans (fn_part1_eq qw qb t (norms x g1 n1))

/-- The slice of all the entries changes none. -/
theorem cut64_apply {α : Type} (f : S128x12x64x64.Idx → α) (W : Fin 128) (h : Fin 12) (n t : Fin 64) :
    extractStridedSlice S128x12x64x64 (fun _ => 0) f sliceFits_S128x12x64x64_S128x12x64x64 (ix4 W h n t) = f (ix4 W h n t) := by
  refine congrArg f ?_
  funext a
  fin_cases a <;> exact Fin.ext (Nat.zero_add _)

/-- Entry `t` of the sorted row is the row's entry of rank `t`. -/
theorem descending_apply (s : FVec Ideal S128x12x64x64 .f32) (W : Fin 128) (h : Fin 12) (n t : Fin 64) :
    descending s (ix4 W h n t) = rowOf s W h n (Scalars.rank (rowOf s W h n) t) := by
  have e := cut64_apply (fun j => s (j.along 3 (sorted s j))) W h n t
  rw [sorted_apply, ix4_along] at e
  exact e

/-- A mark, of the entries it compares. -/
theorem marks_apply (v : FVec Ideal S128x12x64x64 .f32) (W : Fin 128) (h : Fin 12) (n : Fin 64) (t : Fin 16) :
    marks v (ix4 W h n t) = IntOp.andi
      (Ideal.cmp .ogt (v (ix4 W h n (⟨47 + t.val, by omega⟩ : Fin 64))) (v (ix4 W h n (⟨48 + t.val, by omega⟩ : Fin 64))))
      (Ideal.cmp .olt (v (ix4 W h n (0 : Fin 64))) (Ideal.ofBits .f32 0x7F800000#32)) := by
  pointwise [marks]

/-- Where a mark is set, both comparisons hold. -/
theorem marked {a b c d : EReal} (e : IntOp.andi (Ideal.cmp .ogt a b) (Ideal.cmp .olt c d) = 1#1) : b < a ∧ c < d := by
  simp only [Ideal.cmp, IntOp.andi] at e
  by_cases h : b < a <;> by_cases h' : c < d <;> simp_all

/-- Where the precondition holds, every row of scores has a cut. -/
theorem cuts (x : FVec Ideal S8x1024x768 .f32) (g1 n1 : FVec Ideal S768 .f32) (qw : FVec Ideal S768x2304 .f32)
    (qb : FVec Ideal S2304 .f32) (pw : FVec Ideal S768x768 .f32) (pb : FVec Ideal S768 .f32) (t : FVec Ideal S225x12 .f32)
    (g2 n2 : FVec Ideal S768 .f32) (w1 : FVec Ideal S768x3072 .f32) (c1 : FVec Ideal S3072 .f32)
    (w2 : FVec Ideal S3072x768 .f32) (c2 : FVec Ideal S768 .f32)
    (e : ∀ i, fn (F := Ideal) x g1 n1 qw qb pw pb t g2 n2 w1 c1 w2 c2 i = 1#1) :
    (Spec.Args.of x g1 n1 qw qb pw pb (gathered t) g2 n2 w1 c1 w2 c2).Cuts := by
  intro k w h n
  rw [← scores_spec]
  rw [fn_eq] at e
  generalize scores (qkvs (windows (norms x g1 n1)) qw qb) (gathered t) = s at e ⊢
  have e' : ∀ r : Fin 16, _ := fun r => marked ((marks_apply (descending s) (win k w) h n r).symm.trans (e (ix4 (win k w) h n r)))
  simp only [descending_apply] at e'
  exact ⟨fun r => (e' r).1, by have := (e' 0).2; rwa [Spec.ofBits_inf] at this⟩

end Cert.Pre_no_ties_at_cut

end
-- ==== Proof.Agree.lean ====
/- The kernel's result is the reference's. -/
module

public import proofs.«01_k».proof.Proof.RefResult
public import proofs.«01_k».proof.Proof.Precondition
public import proofs.«01_k».proof.Defs

@[expose] public section

set_option maxRecDepth 16384

noncomputable section

namespace Cert.Agree

open Idealize.ShloMosaic Idealize.ShloMosaic.TcCoe Idealize.SL.Sem Idealize.ShloMosaic.StableHlo
open Cert.KernelIdeal.Block (result_eq)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs find the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- Memories with the same arguments give both programs the same arguments by coordinates. -/
theorem args_eq (h : Same m m' c) : Cert.ReferenceIdeal.Value.args (launchContents m' c) = Cert.KernelIdeal.Block.args m c := by
  obtain ⟨h0, h1, h2, h3, h4, h5, h6, h7, h8, h9, h10, h11, h12, h13⟩ := h
  unfold Cert.KernelIdeal.Block.args
  rw [Cert.Tables.gathered_kernel, ← h0, ← h1, ← h2, ← h3, ← h4, ← h5, ← h6, ← h7, ← h8, ← h9, ← h10, ← h11, ← h12, ← h13]
  rfl

/-- Where the precondition holds, every row of scores of the kernel's arguments has a cut. -/
theorem cuts (h : Cert.Pre_KernelIdeal_no_ties_at_cut m) : (Cert.KernelIdeal.Block.args m c).Cuts := by
  have e := Cert.Pre_no_ties_at_cut.cuts _ _ _ _ _ _ _ _ _ _ _ _ _ _ (fun i => congrFun (h c) i)
  rw [← Cert.Tables.gathered_kernel] at e
  exact e

/-- The reference's result is the kernel's. -/
theorem fin_result (h : Same m m' c) (hp : Cert.Pre_KernelIdeal_no_ties_at_cut m) :
    Cert.ReferenceIdeal.Value.fin (Cert.ReferenceIdeal.Value.res_main_v77 (launchContents m' c))
      (Cert.ReferenceIdeal.Value.res_main_v99 (launchContents m' c))
      (launchContents m' c (Proc.devRef .tc Cert.ReferenceIdeal.main_arg12))
      (launchContents m' c (Proc.devRef .tc Cert.ReferenceIdeal.main_arg13))
      = Cert.KernelIdeal.Block.result m c := by
  funext i
  obtain ⟨R, l, rfl⟩ : ∃ (R : Fin 8192) (l : Fin 768), i = ix2 R l := ⟨i 0, i 1, by funext a; fin_cases a <;> rfl⟩
  rw [Cert.ReferenceIdeal.Value.fin_spec, args_eq m m' c h]
  exact (result_eq m c (cuts m c hp) R l).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_ties_at_cut
public import proofs.«01_k».proof.Proof.KernelFrame
public import proofs.«01_k».proof.Proof.Result
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The idealized kernel runs, its arguments end unchanged and its counters at zero. -/
theorem frame_kernel : Cert.quiescent_KernelIdeal :=
  fun m g _ => (θ_run _ _ _).mono (fun _ h => ⟨fun c => (h.1 c).2, h.2⟩) (Cert.KernelIdeal.Block.run m g)

/-- The reference runs, its arguments end unchanged and its counters, of which it has none, at zero. -/
theorem frame_reference : Cert.quiescent_ReferenceIdeal :=
  fun m g _ => (θ_run _ _ _).mono (fun r h => ⟨fun c => (h c).2, sem_eq_zero_of_no_sems rfl r.2⟩)
    (Cert.ReferenceIdeal.Value.run m g)

/-- The idealized kernel's result is the reference's wherever the precondition holds. -/
theorem value : Cert.algebraic_KernelIdeal_ReferenceIdeal_pre_no_ties_at_cut := by
  intro m g m' g' hp hs
  refine ⟨fun c => Cert.KernelIdeal.Block.result m c, ?_, ?_⟩
  · exact (θ_run _ _ _).mono (fun _ h => h.1) (Cert.KernelIdeal.Block.run m g)
  · exact (θ_run _ _ _).mono (fun _ h c => ⟨(h c).1.trans (Cert.Agree.fin_result m m' c (hs c) hp), (h c).2⟩)
      (Cert.ReferenceIdeal.Value.run m' g')

/-- The certificate's claim: the frames of the kernel, of its idealization and of the reference, `preserves`, and the value. -/
theorem claim : Cert.Claim := ⟨Cert.Kernel.Gen.facts, Cert.KernelIdeal.Gen.facts, Cert.ReferenceIdeal.Gen.facts, Cert.Pre_no_ties_at_cut.Gen.facts,
  fun m g _ => Cert.Kernel.Ends.frame m g, frame_kernel, fun m g _ => frame_kernel m g trivial,
  frame_reference, fun m g _ => frame_reference m g trivial, trivial, value⟩

end Cert.Proof

end
